-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x32x32 : Shape := ⟨4, ![4, 384, 32, 32]⟩
abbrev S4x1024x2 : Shape := ⟨3, ![4, 1024, 2]⟩
abbrev S384x384 : Shape := ⟨2, ![384, 384]⟩
abbrev S384 : Shape := ⟨1, ![384]⟩
abbrev S72x384 : Shape := ⟨2, ![72, 384]⟩
abbrev S72 : Shape := ⟨1, ![72]⟩
abbrev S18x384 : Shape := ⟨2, ![18, 384]⟩
abbrev S18 : Shape := ⟨1, ![18]⟩
abbrev S4x384x1024 : Shape := ⟨3, ![4, 384, 1024]⟩
abbrev S4x1024x384 : Shape := ⟨3, ![4, 1024, 384]⟩
abbrev S4096x384 : Shape := ⟨2, ![4096, 384]⟩
abbrev S1x384 : Shape := ⟨2, ![1, 384]⟩
abbrev S384x72 : Shape := ⟨2, ![384, 72]⟩
abbrev S4096x72 : Shape := ⟨2, ![4096, 72]⟩
abbrev S1x72 : Shape := ⟨2, ![1, 72]⟩
abbrev S384x18 : Shape := ⟨2, ![384, 18]⟩
abbrev S4096x18 : Shape := ⟨2, ![4096, 18]⟩
abbrev S1x18 : Shape := ⟨2, ![1, 18]⟩
abbrev S4x1024x9x8 : Shape := ⟨4, ![4, 1024, 9, 8]⟩
abbrev S_ : Shape := ⟨0, ![]⟩
abbrev S4x1024x8 : Shape := ⟨3, ![4, 1024, 8]⟩
abbrev S4x1024x1x8 : Shape := ⟨4, ![4, 1024, 1, 8]⟩
abbrev S4x1024x1x2 : Shape := ⟨4, ![4, 1024, 1, 2]⟩
abbrev S4x1024x9x2 : Shape := ⟨4, ![4, 1024, 9, 2]⟩
abbrev S4x9216x2 : Shape := ⟨3, ![4, 9216, 2]⟩
abbrev S4x9216x1 : Shape := ⟨3, ![4, 9216, 1]⟩
abbrev S4x9216 : Shape := ⟨2, ![4, 9216]⟩
abbrev S4x1x9216 : Shape := ⟨3, ![4, 1, 9216]⟩
abbrev S1 : Shape := ⟨1, ![1]⟩
abbrev S1x1x1 : Shape := ⟨3, ![1, 1, 1]⟩
abbrev S4x384x9216 : Shape := ⟨3, ![4, 384, 9216]⟩
abbrev S4x9216x384 : Shape := ⟨3, ![4, 9216, 384]⟩
abbrev S4x9216x8x48 : Shape := ⟨4, ![4, 9216, 8, 48]⟩
abbrev S4x9216x8x1 : Shape := ⟨4, ![4, 9216, 8, 1]⟩
abbrev S4x1024x9x384 : Shape := ⟨4, ![4, 1024, 9, 384]⟩
abbrev S512x384 : Shape := ⟨2, ![512, 384]⟩

abbrev nBuf : Space → Nat
  | .hbm => 376
  | .vmem => 12
  | .smem => 0
  | _ => 0

abbrev hbmTy0_0 (i : Nat) : BufTy := match i % 128 with
  | 0 => ⟨S4x384x32x32, .f32⟩
  | 1 => ⟨S4x1024x2, .f32⟩
  | 2 => ⟨S384x384, .f32⟩
  | 3 => ⟨S384, .f32⟩
  | 4 => ⟨S72x384, .f32⟩
  | 5 => ⟨S72, .f32⟩
  | 6 => ⟨S18x384, .f32⟩
  | 7 => ⟨S18, .f32⟩
  | 8 => ⟨S384x384, .f32⟩
  | 9 => ⟨S384, .f32⟩
  | 10 => ⟨S4x384x1024, .f32⟩
  | 11 => ⟨S4x1024x384, .f32⟩
  | 12 => ⟨S4096x384, .f32⟩
  | 13 => ⟨S384x384, .f32⟩
  | 14 => ⟨S1x384, .f32⟩
  | 15 => ⟨S4096x384, .f32⟩
  | 16 => ⟨S384x72, .f32⟩
  | 17 => ⟨S4096x72, .f32⟩
  | 18 => ⟨S1x72, .f32⟩
  | 19 => ⟨S4096x72, .f32⟩
  | 20 => ⟨S4096x72, .f32⟩
  | 21 => ⟨S384x18, .f32⟩
  | 22 => ⟨S4096x18, .f32⟩
  | 23 => ⟨S1x18, .f32⟩
  | 24 => ⟨S4096x18, .f32⟩
  | 25 => ⟨S4096x18, .f32⟩
  | 26 => ⟨S4x1024x9x8, .f32⟩
  | 27 => ⟨S_, .f32⟩
  | 28 => ⟨S4x1024x8, .f32⟩
  | 29 => ⟨S_, .f32⟩
  | 30 => ⟨S4x1024x8, .f32⟩
  | 31 => ⟨S4x1024x8, .f32⟩
  | 32 => ⟨S4x1024x1x8, .f32⟩
  | 33 => ⟨S4x1024x9x8, .f32⟩
  | 34 => ⟨S4x1024x9x8, .f32⟩
  | 35 => ⟨S4x1024x9x8, .f32⟩
  | 36 => ⟨S_, .f32⟩
  | 37 => ⟨S4x1024x8, .f32⟩
  | 38 => ⟨S4x1024x1x8, .f32⟩
  | 39 => ⟨S4x1024x9x8, .f32⟩
  | 40 => ⟨S4x1024x9x8, .f32⟩
  | 41 => ⟨S4x1024x1x2, .f32⟩
  | 42 => ⟨S4x1024x9x2, .f32⟩
  | 43 => ⟨S4x1024x9x2, .f32⟩
  | 44 => ⟨S4x1024x9x2, .f32⟩
  | 45 => ⟨S4x9216x2, .f32⟩
  | 46 => ⟨S4x1024x384, .f32⟩
  | 47 => ⟨S4x384x1024, .f32⟩
  | 48 => ⟨S4x384x32x32, .f32⟩
  | 49 => ⟨S4x9216x1, .f32⟩
  | 50 => ⟨S4x9216, .f32⟩
  | 51 => ⟨S_, .f32⟩
  | 52 => ⟨S4x9216, .f32⟩
  | 53 => ⟨S4x9216, .f32⟩
  | 54 => ⟨S_, .f32⟩
  | 55 => ⟨S4x9216, .f32⟩
  | 56 => ⟨S4x9216, .f32⟩
  | 57 => ⟨S4x9216x1, .f32⟩
  | 58 => ⟨S4x9216, .f32⟩
  | 59 => ⟨S_, .f32⟩
  | 60 => ⟨S4x9216, .f32⟩
  | 61 => ⟨S4x9216, .f32⟩
  | 62 => ⟨S_, .f32⟩
  | 63 => ⟨S4x9216, .f32⟩
  | 64 => ⟨S4x9216, .f32⟩
  | 65 => ⟨S4x9216, .f32⟩
  | 66 => ⟨S4x9216, .f32⟩
  | 67 => ⟨S_, .f32⟩
  | 68 => ⟨S4x9216, .f32⟩
  | 69 => ⟨S4x9216, .f32⟩
  | 70 => ⟨S_, .f32⟩
  | 71 => ⟨S4x9216, .f32⟩
  | 72 => ⟨S4x9216, .f32⟩
  | 73 => ⟨S4x9216, .f32⟩
  | 74 => ⟨S_, .f32⟩
  | 75 => ⟨S4x9216, .f32⟩
  | 76 => ⟨S4x9216, .f32⟩
  | 77 => ⟨S4x9216, .f32⟩
  | 78 => ⟨S_, .f32⟩
  | 79 => ⟨S4x9216, .f32⟩
  | 80 => ⟨S4x9216, .f32⟩
  | 81 => ⟨S4x384x1024, .f32⟩
  | 82 => ⟨S_, .f32⟩
  | 83 => ⟨S4x9216, .f32⟩
  | 84 => ⟨S4x9216, .i1⟩
  | 85 => ⟨S_, .f32⟩
  | 86 => ⟨S4x9216, .f32⟩
  | 87 => ⟨S4x9216, .i1⟩
  | 88 => ⟨S4x9216, .i1⟩
  | 89 => ⟨S_, .f32⟩
  | 90 => ⟨S4x9216, .f32⟩
  | 91 => ⟨S4x9216, .i1⟩
  | 92 => ⟨S4x9216, .i1⟩
  | 93 => ⟨S_, .f32⟩
  | 94 => ⟨S4x9216, .f32⟩
  | 95 => ⟨S4x9216, .i1⟩
  | 96 => ⟨S4x9216, .i1⟩
  | 97 => ⟨S_, .i32⟩
  | 98 => ⟨S_, .i32⟩
  | 99 => ⟨S_, .f32⟩
  | 100 => ⟨S4x9216, .f32⟩
  | 101 => ⟨S4x9216, .f32⟩
  | 102 => ⟨S_, .f32⟩
  | 103 => ⟨S4x9216, .f32⟩
  | 104 => ⟨S4x9216, .f32⟩
  | 105 => ⟨S4x9216, .i32⟩
  | 106 => ⟨S_, .i32⟩
  | 107 => ⟨S_, .i32⟩
  | 108 => ⟨S_, .f32⟩
  | 109 => ⟨S4x9216, .f32⟩
  | 110 => ⟨S4x9216, .f32⟩
  | 111 => ⟨S_, .f32⟩
  | 112 => ⟨S4x9216, .f32⟩
  | 113 => ⟨S4x9216, .f32⟩
  | 114 => ⟨S4x9216, .i32⟩
  | 115 => ⟨S_, .i32⟩
  | 116 => ⟨S4x9216, .i32⟩
  | 117 => ⟨S4x9216, .i32⟩
  | 118 => ⟨S4x9216, .i32⟩
  | 119 => ⟨S4x1x9216, .i32⟩
  | 120 => ⟨S_, .i32⟩
  | 121 => ⟨S4x1x9216, .i32⟩
  | 122 => ⟨S4x1x9216, .i1⟩
  | 123 => ⟨S_, .i32⟩
  | 124 => ⟨S4x1x9216, .i32⟩
  | 125 => ⟨S4x1x9216, .i32⟩
  | 126 => ⟨S4x1x9216, .i32⟩
  | 127 => ⟨S4x9216x1, .i32⟩
  | _ => ⟨S4x384x32x32, .f32⟩

abbrev hbmTy0_1 (i : Nat) : BufTy := match i % 128 with
  | 0 => ⟨S1, .i32⟩
  | 1 => ⟨S_, .i32⟩
  | 2 => ⟨S4x9216x1, .i32⟩
  | 3 => ⟨S4x9216x1, .i1⟩
  | 4 => ⟨S1x1x1, .i32⟩
  | 5 => ⟨S4x9216x1, .i32⟩
  | 6 => ⟨S4x9216x1, .i1⟩
  | 7 => ⟨S4x9216x1, .i1⟩
  | 8 => ⟨S_, .i1⟩
  | 9 => ⟨S4x9216, .i1⟩
  | 10 => ⟨S4x384x9216, .f32⟩
  | 11 => ⟨S4x384x9216, .i1⟩
  | 12 => ⟨S_, .f32⟩
  | 13 => ⟨S4x384x9216, .f32⟩
  | 14 => ⟨S4x384x9216, .f32⟩
  | 15 => ⟨S4x1x9216, .i1⟩
  | 16 => ⟨S4x1x9216, .f32⟩
  | 17 => ⟨S4x384x9216, .f32⟩
  | 18 => ⟨S4x384x9216, .f32⟩
  | 19 => ⟨S4x9216, .f32⟩
  | 20 => ⟨S4x1x9216, .f32⟩
  | 21 => ⟨S4x384x9216, .f32⟩
  | 22 => ⟨S4x384x9216, .f32⟩
  | 23 => ⟨S_, .f32⟩
  | 24 => ⟨S4x9216, .f32⟩
  | 25 => ⟨S4x9216, .i1⟩
  | 26 => ⟨S_, .f32⟩
  | 27 => ⟨S4x9216, .f32⟩
  | 28 => ⟨S4x9216, .i1⟩
  | 29 => ⟨S4x9216, .i1⟩
  | 30 => ⟨S_, .f32⟩
  | 31 => ⟨S4x9216, .f32⟩
  | 32 => ⟨S4x9216, .i1⟩
  | 33 => ⟨S4x9216, .i1⟩
  | 34 => ⟨S_, .f32⟩
  | 35 => ⟨S4x9216, .f32⟩
  | 36 => ⟨S4x9216, .i1⟩
  | 37 => ⟨S4x9216, .i1⟩
  | 38 => ⟨S_, .i32⟩
  | 39 => ⟨S_, .i32⟩
  | 40 => ⟨S_, .f32⟩
  | 41 => ⟨S4x9216, .f32⟩
  | 42 => ⟨S4x9216, .f32⟩
  | 43 => ⟨S_, .f32⟩
  | 44 => ⟨S4x9216, .f32⟩
  | 45 => ⟨S4x9216, .f32⟩
  | 46 => ⟨S4x9216, .i32⟩
  | 47 => ⟨S_, .i32⟩
  | 48 => ⟨S_, .i32⟩
  | 49 => ⟨S_, .f32⟩
  | 50 => ⟨S4x9216, .f32⟩
  | 51 => ⟨S4x9216, .f32⟩
  | 52 => ⟨S_, .f32⟩
  | 53 => ⟨S4x9216, .f32⟩
  | 54 => ⟨S4x9216, .f32⟩
  | 55 => ⟨S4x9216, .i32⟩
  | 56 => ⟨S_, .i32⟩
  | 57 => ⟨S4x9216, .i32⟩
  | 58 => ⟨S4x9216, .i32⟩
  | 59 => ⟨S4x9216, .i32⟩
  | 60 => ⟨S4x1x9216, .i32⟩
  | 61 => ⟨S_, .i32⟩
  | 62 => ⟨S4x1x9216, .i32⟩
  | 63 => ⟨S4x1x9216, .i1⟩
  | 64 => ⟨S_, .i32⟩
  | 65 => ⟨S4x1x9216, .i32⟩
  | 66 => ⟨S4x1x9216, .i32⟩
  | 67 => ⟨S4x1x9216, .i32⟩
  | 68 => ⟨S4x9216x1, .i32⟩
  | 69 => ⟨S1, .i32⟩
  | 70 => ⟨S_, .i32⟩
  | 71 => ⟨S4x9216x1, .i32⟩
  | 72 => ⟨S4x9216x1, .i1⟩
  | 73 => ⟨S1x1x1, .i32⟩
  | 74 => ⟨S4x9216x1, .i32⟩
  | 75 => ⟨S4x9216x1, .i1⟩
  | 76 => ⟨S4x9216x1, .i1⟩
  | 77 => ⟨S_, .i1⟩
  | 78 => ⟨S4x9216, .i1⟩
  | 79 => ⟨S4x384x9216, .f32⟩
  | 80 => ⟨S4x384x9216, .i1⟩
  | 81 => ⟨S_, .f32⟩
  | 82 => ⟨S4x384x9216, .f32⟩
  | 83 => ⟨S4x384x9216, .f32⟩
  | 84 => ⟨S4x1x9216, .i1⟩
  | 85 => ⟨S4x1x9216, .f32⟩
  | 86 => ⟨S4x384x9216, .f32⟩
  | 87 => ⟨S4x384x9216, .f32⟩
  | 88 => ⟨S4x9216, .f32⟩
  | 89 => ⟨S4x1x9216, .f32⟩
  | 90 => ⟨S4x384x9216, .f32⟩
  | 91 => ⟨S4x384x9216, .f32⟩
  | 92 => ⟨S4x384x9216, .f32⟩
  | 93 => ⟨S_, .f32⟩
  | 94 => ⟨S4x9216, .f32⟩
  | 95 => ⟨S4x9216, .i1⟩
  | 96 => ⟨S_, .f32⟩
  | 97 => ⟨S4x9216, .f32⟩
  | 98 => ⟨S4x9216, .i1⟩
  | 99 => ⟨S4x9216, .i1⟩
  | 100 => ⟨S_, .f32⟩
  | 101 => ⟨S4x9216, .f32⟩
  | 102 => ⟨S4x9216, .i1⟩
  | 103 => ⟨S4x9216, .i1⟩
  | 104 => ⟨S_, .f32⟩
  | 105 => ⟨S4x9216, .f32⟩
  | 106 => ⟨S4x9216, .i1⟩
  | 107 => ⟨S4x9216, .i1⟩
  | 108 => ⟨S_, .i32⟩
  | 109 => ⟨S_, .i32⟩
  | 110 => ⟨S_, .f32⟩
  | 111 => ⟨S4x9216, .f32⟩
  | 112 => ⟨S4x9216, .f32⟩
  | 113 => ⟨S_, .f32⟩
  | 114 => ⟨S4x9216, .f32⟩
  | 115 => ⟨S4x9216, .f32⟩
  | 116 => ⟨S4x9216, .i32⟩
  | 117 => ⟨S_, .i32⟩
  | 118 => ⟨S_, .i32⟩
  | 119 => ⟨S_, .f32⟩
  | 120 => ⟨S4x9216, .f32⟩
  | 121 => ⟨S4x9216, .f32⟩
  | 122 => ⟨S_, .f32⟩
  | 123 => ⟨S4x9216, .f32⟩
  | 124 => ⟨S4x9216, .f32⟩
  | 125 => ⟨S4x9216, .i32⟩
  | 126 => ⟨S_, .i32⟩
  | 127 => ⟨S4x9216, .i32⟩
  | _ => ⟨S4x384x32x32, .f32⟩

abbrev hbmTy0_2 (i : Nat) : BufTy := match i % 128 with
  | 0 => ⟨S4x9216, .i32⟩
  | 1 => ⟨S4x9216, .i32⟩
  | 2 => ⟨S4x1x9216, .i32⟩
  | 3 => ⟨S_, .i32⟩
  | 4 => ⟨S4x1x9216, .i32⟩
  | 5 => ⟨S4x1x9216, .i1⟩
  | 6 => ⟨S_, .i32⟩
  | 7 => ⟨S4x1x9216, .i32⟩
  | 8 => ⟨S4x1x9216, .i32⟩
  | 9 => ⟨S4x1x9216, .i32⟩
  | 10 => ⟨S4x9216x1, .i32⟩
  | 11 => ⟨S1, .i32⟩
  | 12 => ⟨S_, .i32⟩
  | 13 => ⟨S4x9216x1, .i32⟩
  | 14 => ⟨S4x9216x1, .i1⟩
  | 15 => ⟨S1x1x1, .i32⟩
  | 16 => ⟨S4x9216x1, .i32⟩
  | 17 => ⟨S4x9216x1, .i1⟩
  | 18 => ⟨S4x9216x1, .i1⟩
  | 19 => ⟨S_, .i1⟩
  | 20 => ⟨S4x9216, .i1⟩
  | 21 => ⟨S4x384x9216, .f32⟩
  | 22 => ⟨S4x384x9216, .i1⟩
  | 23 => ⟨S_, .f32⟩
  | 24 => ⟨S4x384x9216, .f32⟩
  | 25 => ⟨S4x384x9216, .f32⟩
  | 26 => ⟨S4x1x9216, .i1⟩
  | 27 => ⟨S4x1x9216, .f32⟩
  | 28 => ⟨S4x384x9216, .f32⟩
  | 29 => ⟨S4x384x9216, .f32⟩
  | 30 => ⟨S4x9216, .f32⟩
  | 31 => ⟨S4x1x9216, .f32⟩
  | 32 => ⟨S4x384x9216, .f32⟩
  | 33 => ⟨S4x384x9216, .f32⟩
  | 34 => ⟨S4x384x9216, .f32⟩
  | 35 => ⟨S_, .f32⟩
  | 36 => ⟨S4x9216, .f32⟩
  | 37 => ⟨S4x9216, .i1⟩
  | 38 => ⟨S_, .f32⟩
  | 39 => ⟨S4x9216, .f32⟩
  | 40 => ⟨S4x9216, .i1⟩
  | 41 => ⟨S4x9216, .i1⟩
  | 42 => ⟨S_, .f32⟩
  | 43 => ⟨S4x9216, .f32⟩
  | 44 => ⟨S4x9216, .i1⟩
  | 45 => ⟨S4x9216, .i1⟩
  | 46 => ⟨S_, .f32⟩
  | 47 => ⟨S4x9216, .f32⟩
  | 48 => ⟨S4x9216, .i1⟩
  | 49 => ⟨S4x9216, .i1⟩
  | 50 => ⟨S_, .i32⟩
  | 51 => ⟨S_, .i32⟩
  | 52 => ⟨S_, .f32⟩
  | 53 => ⟨S4x9216, .f32⟩
  | 54 => ⟨S4x9216, .f32⟩
  | 55 => ⟨S_, .f32⟩
  | 56 => ⟨S4x9216, .f32⟩
  | 57 => ⟨S4x9216, .f32⟩
  | 58 => ⟨S4x9216, .i32⟩
  | 59 => ⟨S_, .i32⟩
  | 60 => ⟨S_, .i32⟩
  | 61 => ⟨S_, .f32⟩
  | 62 => ⟨S4x9216, .f32⟩
  | 63 => ⟨S4x9216, .f32⟩
  | 64 => ⟨S_, .f32⟩
  | 65 => ⟨S4x9216, .f32⟩
  | 66 => ⟨S4x9216, .f32⟩
  | 67 => ⟨S4x9216, .i32⟩
  | 68 => ⟨S_, .i32⟩
  | 69 => ⟨S4x9216, .i32⟩
  | 70 => ⟨S4x9216, .i32⟩
  | 71 => ⟨S4x9216, .i32⟩
  | 72 => ⟨S4x1x9216, .i32⟩
  | 73 => ⟨S_, .i32⟩
  | 74 => ⟨S4x1x9216, .i32⟩
  | 75 => ⟨S4x1x9216, .i1⟩
  | 76 => ⟨S_, .i32⟩
  | 77 => ⟨S4x1x9216, .i32⟩
  | 78 => ⟨S4x1x9216, .i32⟩
  | 79 => ⟨S4x1x9216, .i32⟩
  | 80 => ⟨S4x9216x1, .i32⟩
  | 81 => ⟨S1, .i32⟩
  | 82 => ⟨S_, .i32⟩
  | 83 => ⟨S4x9216x1, .i32⟩
  | 84 => ⟨S4x9216x1, .i1⟩
  | 85 => ⟨S1x1x1, .i32⟩
  | 86 => ⟨S4x9216x1, .i32⟩
  | 87 => ⟨S4x9216x1, .i1⟩
  | 88 => ⟨S4x9216x1, .i1⟩
  | 89 => ⟨S_, .i1⟩
  | 90 => ⟨S4x9216, .i1⟩
  | 91 => ⟨S4x384x9216, .f32⟩
  | 92 => ⟨S4x384x9216, .i1⟩
  | 93 => ⟨S_, .f32⟩
  | 94 => ⟨S4x384x9216, .f32⟩
  | 95 => ⟨S4x384x9216, .f32⟩
  | 96 => ⟨S4x1x9216, .i1⟩
  | 97 => ⟨S4x1x9216, .f32⟩
  | 98 => ⟨S4x384x9216, .f32⟩
  | 99 => ⟨S4x384x9216, .f32⟩
  | 100 => ⟨S4x9216, .f32⟩
  | 101 => ⟨S4x1x9216, .f32⟩
  | 102 => ⟨S4x384x9216, .f32⟩
  | 103 => ⟨S4x384x9216, .f32⟩
  | 104 => ⟨S4x384x9216, .f32⟩
  | 105 => ⟨S4x9216x384, .f32⟩
  | 106 => ⟨S4x9216x8x48, .f32⟩
  | 107 => ⟨S4x9216x8x1, .f32⟩
  | 108 => ⟨S4x9216x8x48, .f32⟩
  | 109 => ⟨S4x9216x8x48, .f32⟩
  | 110 => ⟨S4x1024x9x384, .f32⟩
  | 111 => ⟨S_, .f32⟩
  | 112 => ⟨S4x1024x384, .f32⟩
  | 113 => ⟨S4096x384, .f32⟩
  | 114 => ⟨S384x384, .f32⟩
  | 115 => ⟨S1x384, .f32⟩
  | 116 => ⟨S4096x384, .f32⟩
  | 117 => ⟨S4x1024x384, .f32⟩
  | 118 => ⟨S4x384x1024, .f32⟩
  | 119 => ⟨S4x384x32x32, .f32⟩
  | _ => ⟨S4x384x32x32, .f32⟩

abbrev hbmTy (i : Nat) : BufTy := match i / 128 with
  | 0 => hbmTy0_0 i
  | 1 => hbmTy0_1 i
  | 2 => hbmTy0_2 i
  | _ => ⟨S4x384x32x32, .f32⟩

abbrev bufTy : (tb : Table) → Fin (tcTables nBuf tb) → BufTy
  | .hbm, ⟨i, _⟩ => hbmTy i
  | .local _ .vmem, ⟨0, _⟩ => ⟨S512x384, .f32⟩
  | .local _ .vmem, ⟨1, _⟩ => ⟨S512x384, .f32⟩
  | .local _ .vmem, ⟨2, _⟩ => ⟨S384x384, .f32⟩
  | .local _ .vmem, ⟨3, _⟩ => ⟨S1x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S384x384, .f32⟩
  | .local _ .vmem, ⟨9, _⟩ => ⟨S1x384, .f32⟩
  | .local _ .vmem, ⟨10, _⟩ => ⟨S512x384, .f32⟩
  | .local _ .vmem, ⟨11, _⟩ => ⟨S512x384, .f32⟩
  | _, _ => ⟨S4x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_cst : Ref sig .tc := ⟨.hbm, 27, rfl⟩
abbrev main_call0_v17 : Ref sig .tc := ⟨.hbm, 28, rfl⟩
abbrev main_call0_cst_0 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_cst_1 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_cst_2 : Ref sig .tc := ⟨.hbm, 51, rfl⟩
abbrev main_call0_v38 : Ref sig .tc := ⟨.hbm, 52, rfl⟩
abbrev main_call0_v39 : Ref sig .tc := ⟨.hbm, 53, rfl⟩
abbrev main_call0_cst_3 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_v43 : Ref sig .tc := ⟨.hbm, 58, rfl⟩
abbrev main_call0_cst_4 : Ref sig .tc := ⟨.hbm, 59, rfl⟩
abbrev main_call0_v44 : Ref sig .tc := ⟨.hbm, 60, rfl⟩
abbrev main_call0_v45 : Ref sig .tc := ⟨.hbm, 61, rfl⟩
abbrev main_call0_cst_5 : Ref sig .tc := ⟨.hbm, 62, rfl⟩
abbrev main_call0_v46 : Ref sig .tc := ⟨.hbm, 63, rfl⟩
abbrev main_call0_v47 : Ref sig .tc := ⟨.hbm, 64, rfl⟩
abbrev main_call0_v48 : Ref sig .tc := ⟨.hbm, 65, rfl⟩
abbrev main_call0_v49 : Ref sig .tc := ⟨.hbm, 66, rfl⟩
abbrev main_call0_cst_6 : Ref sig .tc := ⟨.hbm, 67, rfl⟩
abbrev main_call0_v50 : Ref sig .tc := ⟨.hbm, 68, rfl⟩
abbrev main_call0_v51 : Ref sig .tc := ⟨.hbm, 69, rfl⟩
abbrev main_call0_cst_7 : Ref sig .tc := ⟨.hbm, 70, rfl⟩
abbrev main_call0_v52 : Ref sig .tc := ⟨.hbm, 71, rfl⟩
abbrev main_call0_v53 : Ref sig .tc := ⟨.hbm, 72, rfl⟩
abbrev main_call0_v54 : Ref sig .tc := ⟨.hbm, 73, rfl⟩
abbrev main_call0_cst_8 : Ref sig .tc := ⟨.hbm, 74, rfl⟩
abbrev main_call0_v55 : Ref sig .tc := ⟨.hbm, 75, rfl⟩
abbrev main_call0_v56 : Ref sig .tc := ⟨.hbm, 76, rfl⟩
abbrev main_call0_v57 : Ref sig .tc := ⟨.hbm, 77, rfl⟩
abbrev main_call0_cst_9 : Ref sig .tc := ⟨.hbm, 78, rfl⟩
abbrev main_call0_v58 : Ref sig .tc := ⟨.hbm, 79, rfl⟩
abbrev main_call0_v59 : Ref sig .tc := ⟨.hbm, 80, rfl⟩
abbrev main_call0_v60 : Ref sig .tc := ⟨.hbm, 81, rfl⟩
abbrev main_call0_cst_10 : Ref sig .tc := ⟨.hbm, 82, rfl⟩
abbrev main_call0_v61 : Ref sig .tc := ⟨.hbm, 83, rfl⟩
abbrev main_call0_v62 : Ref sig .tc := ⟨.hbm, 84, rfl⟩
abbrev main_call0_cst_11 : Ref sig .tc := ⟨.hbm, 85, rfl⟩
abbrev main_call0_v63 : Ref sig .tc := ⟨.hbm, 86, rfl⟩
abbrev main_call0_v64 : Ref sig .tc := ⟨.hbm, 87, rfl⟩
abbrev main_call0_v65 : Ref sig .tc := ⟨.hbm, 88, rfl⟩
abbrev main_call0_cst_12 : Ref sig .tc := ⟨.hbm, 89, rfl⟩
abbrev main_call0_v66 : Ref sig .tc := ⟨.hbm, 90, rfl⟩
abbrev main_call0_v67 : Ref sig .tc := ⟨.hbm, 91, rfl⟩
abbrev main_call0_v68 : Ref sig .tc := ⟨.hbm, 92, rfl⟩
abbrev main_call0_cst_13 : Ref sig .tc := ⟨.hbm, 93, rfl⟩
abbrev main_call0_v69 : Ref sig .tc := ⟨.hbm, 94, rfl⟩
abbrev main_call0_v70 : Ref sig .tc := ⟨.hbm, 95, rfl⟩
abbrev main_call0_v71 : Ref sig .tc := ⟨.hbm, 96, rfl⟩
abbrev main_call0_c : Ref sig .tc := ⟨.hbm, 97, rfl⟩
abbrev main_call0_c_14 : Ref sig .tc := ⟨.hbm, 98, rfl⟩
abbrev main_call0_call0_v0 : Ref sig .tc := ⟨.hbm, 99, rfl⟩
abbrev main_call0_call0_v1 : Ref sig .tc := ⟨.hbm, 100, rfl⟩
abbrev main_call0_call0_v2 : Ref sig .tc := ⟨.hbm, 101, rfl⟩
abbrev main_call0_call0_v3 : Ref sig .tc := ⟨.hbm, 102, rfl⟩
abbrev main_call0_call0_v4 : Ref sig .tc := ⟨.hbm, 103, rfl⟩
abbrev main_call0_v72 : Ref sig .tc := ⟨.hbm, 104, rfl⟩
abbrev main_call0_v73 : Ref sig .tc := ⟨.hbm, 105, rfl⟩
abbrev main_call0_c_15 : Ref sig .tc := ⟨.hbm, 106, rfl⟩
abbrev main_call0_c_16 : Ref sig .tc := ⟨.hbm, 107, rfl⟩
abbrev main_call0_call1_v0 : Ref sig .tc := ⟨.hbm, 108, rfl⟩
abbrev main_call0_call1_v1 : Ref sig .tc := ⟨.hbm, 109, rfl⟩
abbrev main_call0_call1_v2 : Ref sig .tc := ⟨.hbm, 110, rfl⟩
abbrev main_call0_call1_v3 : Ref sig .tc := ⟨.hbm, 111, rfl⟩
abbrev main_call0_call1_v4 : Ref sig .tc := ⟨.hbm, 112, rfl⟩
abbrev main_call0_v74 : Ref sig .tc := ⟨.hbm, 113, rfl⟩
abbrev main_call0_v75 : Ref sig .tc := ⟨.hbm, 114, rfl⟩
abbrev main_call0_c_17 : Ref sig .tc := ⟨.hbm, 115, rfl⟩
abbrev main_call0_v76 : Ref sig .tc := ⟨.hbm, 116, rfl⟩
abbrev main_call0_v77 : Ref sig .tc := ⟨.hbm, 117, rfl⟩
abbrev main_call0_v78 : Ref sig .tc := ⟨.hbm, 118, rfl⟩
abbrev main_call0_v79 : Ref sig .tc := ⟨.hbm, 119, rfl⟩
abbrev main_call0_call2_c : Ref sig .tc := ⟨.hbm, 120, rfl⟩
abbrev main_call0_call2_v0 : Ref sig .tc := ⟨.hbm, 121, rfl⟩
abbrev main_call0_call2_v1 : Ref sig .tc := ⟨.hbm, 122, rfl⟩
abbrev main_call0_call2_c_0 : Ref sig .tc := ⟨.hbm, 123, rfl⟩
abbrev main_call0_call2_v2 : Ref sig .tc := ⟨.hbm, 124, rfl⟩
abbrev main_call0_call2_v3 : Ref sig .tc := ⟨.hbm, 125, rfl⟩
abbrev main_call0_call2_v4 : Ref sig .tc := ⟨.hbm, 126, rfl⟩
abbrev main_call0_call2_v5 : Ref sig .tc := ⟨.hbm, 127, rfl⟩
abbrev main_call0_call2_c_1 : Ref sig .tc := ⟨.hbm, 128, rfl⟩
abbrev main_call0_call2_c_2 : Ref sig .tc := ⟨.hbm, 129, rfl⟩
abbrev main_call0_call2_v6 : Ref sig .tc := ⟨.hbm, 130, rfl⟩
abbrev main_call0_call2_v7 : Ref sig .tc := ⟨.hbm, 131, rfl⟩
abbrev main_call0_call2_v8 : Ref sig .tc := ⟨.hbm, 132, rfl⟩
abbrev main_call0_call2_v9 : Ref sig .tc := ⟨.hbm, 133, rfl⟩
abbrev main_call0_call2_v10 : Ref sig .tc := ⟨.hbm, 134, rfl⟩
abbrev main_call0_call2_v11 : Ref sig .tc := ⟨.hbm, 135, rfl⟩
abbrev main_call0_call2_c_3 : Ref sig .tc := ⟨.hbm, 136, rfl⟩
abbrev main_call0_call2_v12 : Ref sig .tc := ⟨.hbm, 137, rfl⟩
abbrev main_call0_call2_v13 : Ref sig .tc := ⟨.hbm, 138, rfl⟩
abbrev main_call0_call2_v14 : Ref sig .tc := ⟨.hbm, 139, rfl⟩
abbrev main_call0_call2_cst : Ref sig .tc := ⟨.hbm, 140, rfl⟩
abbrev main_call0_call2_v15 : Ref sig .tc := ⟨.hbm, 141, rfl⟩
abbrev main_call0_v80 : Ref sig .tc := ⟨.hbm, 142, rfl⟩
abbrev main_call0_v81 : Ref sig .tc := ⟨.hbm, 143, rfl⟩
abbrev main_call0_v82 : Ref sig .tc := ⟨.hbm, 144, rfl⟩
abbrev main_call0_v83 : Ref sig .tc := ⟨.hbm, 145, rfl⟩
abbrev main_call0_v84 : Ref sig .tc := ⟨.hbm, 146, rfl⟩
abbrev main_call0_v85 : Ref sig .tc := ⟨.hbm, 147, rfl⟩
abbrev main_call0_v86 : Ref sig .tc := ⟨.hbm, 148, rfl⟩
abbrev main_call0_v87 : Ref sig .tc := ⟨.hbm, 149, rfl⟩
abbrev main_call0_v88 : Ref sig .tc := ⟨.hbm, 150, rfl⟩
abbrev main_call0_cst_18 : Ref sig .tc := ⟨.hbm, 151, rfl⟩
abbrev main_call0_v89 : Ref sig .tc := ⟨.hbm, 152, rfl⟩
abbrev main_call0_v90 : Ref sig .tc := ⟨.hbm, 153, rfl⟩
abbrev main_call0_cst_19 : Ref sig .tc := ⟨.hbm, 154, rfl⟩
abbrev main_call0_v91 : Ref sig .tc := ⟨.hbm, 155, rfl⟩
abbrev main_call0_v92 : Ref sig .tc := ⟨.hbm, 156, rfl⟩
abbrev main_call0_v93 : Ref sig .tc := ⟨.hbm, 157, rfl⟩
abbrev main_call0_cst_20 : Ref sig .tc := ⟨.hbm, 158, rfl⟩
abbrev main_call0_v94 : Ref sig .tc := ⟨.hbm, 159, rfl⟩
abbrev main_call0_v95 : Ref sig .tc := ⟨.hbm, 160, rfl⟩
abbrev main_call0_v96 : Ref sig .tc := ⟨.hbm, 161, rfl⟩
abbrev main_call0_cst_21 : Ref sig .tc := ⟨.hbm, 162, rfl⟩
abbrev main_call0_v97 : Ref sig .tc := ⟨.hbm, 163, rfl⟩
abbrev main_call0_v98 : Ref sig .tc := ⟨.hbm, 164, rfl⟩
abbrev main_call0_v99 : Ref sig .tc := ⟨.hbm, 165, rfl⟩
abbrev main_call0_c_22 : Ref sig .tc := ⟨.hbm, 166, rfl⟩
abbrev main_call0_c_23 : Ref sig .tc := ⟨.hbm, 167, rfl⟩
abbrev main_call0_call3_v0 : Ref sig .tc := ⟨.hbm, 168, rfl⟩
abbrev main_call0_call3_v1 : Ref sig .tc := ⟨.hbm, 169, rfl⟩
abbrev main_call0_call3_v2 : Ref sig .tc := ⟨.hbm, 170, rfl⟩
abbrev main_call0_call3_v3 : Ref sig .tc := ⟨.hbm, 171, rfl⟩
abbrev main_call0_call3_v4 : Ref sig .tc := ⟨.hbm, 172, rfl⟩
abbrev main_call0_v100 : Ref sig .tc := ⟨.hbm, 173, rfl⟩
abbrev main_call0_v101 : Ref sig .tc := ⟨.hbm, 174, rfl⟩
abbrev main_call0_c_24 : Ref sig .tc := ⟨.hbm, 175, rfl⟩
abbrev main_call0_c_25 : Ref sig .tc := ⟨.hbm, 176, rfl⟩
abbrev main_call0_call4_v0 : Ref sig .tc := ⟨.hbm, 177, rfl⟩
abbrev main_call0_call4_v1 : Ref sig .tc := ⟨.hbm, 178, rfl⟩
abbrev main_call0_call4_v2 : Ref sig .tc := ⟨.hbm, 179, rfl⟩
abbrev main_call0_call4_v3 : Ref sig .tc := ⟨.hbm, 180, rfl⟩
abbrev main_call0_call4_v4 : Ref sig .tc := ⟨.hbm, 181, rfl⟩
abbrev main_call0_v102 : Ref sig .tc := ⟨.hbm, 182, rfl⟩
abbrev main_call0_v103 : Ref sig .tc := ⟨.hbm, 183, rfl⟩
abbrev main_call0_c_26 : Ref sig .tc := ⟨.hbm, 184, rfl⟩
abbrev main_call0_v104 : Ref sig .tc := ⟨.hbm, 185, rfl⟩
abbrev main_call0_v105 : Ref sig .tc := ⟨.hbm, 186, rfl⟩
abbrev main_call0_v106 : Ref sig .tc := ⟨.hbm, 187, rfl⟩
abbrev main_call0_v107 : Ref sig .tc := ⟨.hbm, 188, rfl⟩
abbrev main_call0_call5_c : Ref sig .tc := ⟨.hbm, 189, rfl⟩
abbrev main_call0_call5_v0 : Ref sig .tc := ⟨.hbm, 190, rfl⟩
abbrev main_call0_call5_v1 : Ref sig .tc := ⟨.hbm, 191, rfl⟩
abbrev main_call0_call5_c_0 : Ref sig .tc := ⟨.hbm, 192, rfl⟩
abbrev main_call0_call5_v2 : Ref sig .tc := ⟨.hbm, 193, rfl⟩
abbrev main_call0_call5_v3 : Ref sig .tc := ⟨.hbm, 194, rfl⟩
abbrev main_call0_call5_v4 : Ref sig .tc := ⟨.hbm, 195, rfl⟩
abbrev main_call0_call5_v5 : Ref sig .tc := ⟨.hbm, 196, rfl⟩
abbrev main_call0_call5_c_1 : Ref sig .tc := ⟨.hbm, 197, rfl⟩
abbrev main_call0_call5_c_2 : Ref sig .tc := ⟨.hbm, 198, rfl⟩
abbrev main_call0_call5_v6 : Ref sig .tc := ⟨.hbm, 199, rfl⟩
abbrev main_call0_call5_v7 : Ref sig .tc := ⟨.hbm, 200, rfl⟩
abbrev main_call0_call5_v8 : Ref sig .tc := ⟨.hbm, 201, rfl⟩
abbrev main_call0_call5_v9 : Ref sig .tc := ⟨.hbm, 202, rfl⟩
abbrev main_call0_call5_v10 : Ref sig .tc := ⟨.hbm, 203, rfl⟩
abbrev main_call0_call5_v11 : Ref sig .tc := ⟨.hbm, 204, rfl⟩
abbrev main_call0_call5_c_3 : Ref sig .tc := ⟨.hbm, 205, rfl⟩
abbrev main_call0_call5_v12 : Ref sig .tc := ⟨.hbm, 206, rfl⟩
abbrev main_call0_call5_v13 : Ref sig .tc := ⟨.hbm, 207, rfl⟩
abbrev main_call0_call5_v14 : Ref sig .tc := ⟨.hbm, 208, rfl⟩
abbrev main_call0_call5_cst : Ref sig .tc := ⟨.hbm, 209, rfl⟩
abbrev main_call0_call5_v15 : Ref sig .tc := ⟨.hbm, 210, rfl⟩
abbrev main_call0_v108 : Ref sig .tc := ⟨.hbm, 211, rfl⟩
abbrev main_call0_v109 : Ref sig .tc := ⟨.hbm, 212, rfl⟩
abbrev main_call0_v110 : Ref sig .tc := ⟨.hbm, 213, rfl⟩
abbrev main_call0_v111 : Ref sig .tc := ⟨.hbm, 214, rfl⟩
abbrev main_call0_v112 : Ref sig .tc := ⟨.hbm, 215, rfl⟩
abbrev main_call0_v113 : Ref sig .tc := ⟨.hbm, 216, rfl⟩
abbrev main_call0_v114 : Ref sig .tc := ⟨.hbm, 217, rfl⟩
abbrev main_call0_v115 : Ref sig .tc := ⟨.hbm, 218, rfl⟩
abbrev main_call0_v116 : Ref sig .tc := ⟨.hbm, 219, rfl⟩
abbrev main_call0_v117 : Ref sig .tc := ⟨.hbm, 220, rfl⟩
abbrev main_call0_cst_27 : Ref sig .tc := ⟨.hbm, 221, rfl⟩
abbrev main_call0_v118 : Ref sig .tc := ⟨.hbm, 222, rfl⟩
abbrev main_call0_v119 : Ref sig .tc := ⟨.hbm, 223, rfl⟩
abbrev main_call0_cst_28 : Ref sig .tc := ⟨.hbm, 224, rfl⟩
abbrev main_call0_v120 : Ref sig .tc := ⟨.hbm, 225, rfl⟩
abbrev main_call0_v121 : Ref sig .tc := ⟨.hbm, 226, rfl⟩
abbrev main_call0_v122 : Ref sig .tc := ⟨.hbm, 227, rfl⟩
abbrev main_call0_cst_29 : Ref sig .tc := ⟨.hbm, 228, rfl⟩
abbrev main_call0_v123 : Ref sig .tc := ⟨.hbm, 229, rfl⟩
abbrev main_call0_v124 : Ref sig .tc := ⟨.hbm, 230, rfl⟩
abbrev main_call0_v125 : Ref sig .tc := ⟨.hbm, 231, rfl⟩
abbrev main_call0_cst_30 : Ref sig .tc := ⟨.hbm, 232, rfl⟩
abbrev main_call0_v126 : Ref sig .tc := ⟨.hbm, 233, rfl⟩
abbrev main_call0_v127 : Ref sig .tc := ⟨.hbm, 234, rfl⟩
abbrev main_call0_v128 : Ref sig .tc := ⟨.hbm, 235, rfl⟩
abbrev main_call0_c_31 : Ref sig .tc := ⟨.hbm, 236, rfl⟩
abbrev main_call0_c_32 : Ref sig .tc := ⟨.hbm, 237, rfl⟩
abbrev main_call0_call6_v0 : Ref sig .tc := ⟨.hbm, 238, rfl⟩
abbrev main_call0_call6_v1 : Ref sig .tc := ⟨.hbm, 239, rfl⟩
abbrev main_call0_call6_v2 : Ref sig .tc := ⟨.hbm, 240, rfl⟩
abbrev main_call0_call6_v3 : Ref sig .tc := ⟨.hbm, 241, rfl⟩
abbrev main_call0_call6_v4 : Ref sig .tc := ⟨.hbm, 242, rfl⟩
abbrev main_call0_v129 : Ref sig .tc := ⟨.hbm, 243, rfl⟩
abbrev main_call0_v130 : Ref sig .tc := ⟨.hbm, 244, rfl⟩
abbrev main_call0_c_33 : Ref sig .tc := ⟨.hbm, 245, rfl⟩
abbrev main_call0_c_34 : Ref sig .tc := ⟨.hbm, 246, rfl⟩
abbrev main_call0_call7_v0 : Ref sig .tc := ⟨.hbm, 247, rfl⟩
abbrev main_call0_call7_v1 : Ref sig .tc := ⟨.hbm, 248, rfl⟩
abbrev main_call0_call7_v2 : Ref sig .tc := ⟨.hbm, 249, rfl⟩
abbrev main_call0_call7_v3 : Ref sig .tc := ⟨.hbm, 250, rfl⟩
abbrev main_call0_call7_v4 : Ref sig .tc := ⟨.hbm, 251, rfl⟩
abbrev main_call0_v131 : Ref sig .tc := ⟨.hbm, 252, rfl⟩
abbrev main_call0_v132 : Ref sig .tc := ⟨.hbm, 253, rfl⟩
abbrev main_call0_c_35 : Ref sig .tc := ⟨.hbm, 254, rfl⟩
abbrev main_call0_v133 : Ref sig .tc := ⟨.hbm, 255, rfl⟩
abbrev main_call0_v134 : Ref sig .tc := ⟨.hbm, 256, rfl⟩
abbrev main_call0_v135 : Ref sig .tc := ⟨.hbm, 257, rfl⟩
abbrev main_call0_v136 : Ref sig .tc := ⟨.hbm, 258, rfl⟩
abbrev main_call0_call8_c : Ref sig .tc := ⟨.hbm, 259, rfl⟩
abbrev main_call0_call8_v0 : Ref sig .tc := ⟨.hbm, 260, rfl⟩
abbrev main_call0_call8_v1 : Ref sig .tc := ⟨.hbm, 261, rfl⟩
abbrev main_call0_call8_c_0 : Ref sig .tc := ⟨.hbm, 262, rfl⟩
abbrev main_call0_call8_v2 : Ref sig .tc := ⟨.hbm, 263, rfl⟩
abbrev main_call0_call8_v3 : Ref sig .tc := ⟨.hbm, 264, rfl⟩
abbrev main_call0_call8_v4 : Ref sig .tc := ⟨.hbm, 265, rfl⟩
abbrev main_call0_call8_v5 : Ref sig .tc := ⟨.hbm, 266, rfl⟩
abbrev main_call0_call8_c_1 : Ref sig .tc := ⟨.hbm, 267, rfl⟩
abbrev main_call0_call8_c_2 : Ref sig .tc := ⟨.hbm, 268, rfl⟩
abbrev main_call0_call8_v6 : Ref sig .tc := ⟨.hbm, 269, rfl⟩
abbrev main_call0_call8_v7 : Ref sig .tc := ⟨.hbm, 270, rfl⟩
abbrev main_call0_call8_v8 : Ref sig .tc := ⟨.hbm, 271, rfl⟩
abbrev main_call0_call8_v9 : Ref sig .tc := ⟨.hbm, 272, rfl⟩
abbrev main_call0_call8_v10 : Ref sig .tc := ⟨.hbm, 273, rfl⟩
abbrev main_call0_call8_v11 : Ref sig .tc := ⟨.hbm, 274, rfl⟩
abbrev main_call0_call8_c_3 : Ref sig .tc := ⟨.hbm, 275, rfl⟩
abbrev main_call0_call8_v12 : Ref sig .tc := ⟨.hbm, 276, rfl⟩
abbrev main_call0_call8_v13 : Ref sig .tc := ⟨.hbm, 277, rfl⟩
abbrev main_call0_call8_v14 : Ref sig .tc := ⟨.hbm, 278, rfl⟩
abbrev main_call0_call8_cst : Ref sig .tc := ⟨.hbm, 279, rfl⟩
abbrev main_call0_call8_v15 : Ref sig .tc := ⟨.hbm, 280, rfl⟩
abbrev main_call0_v137 : Ref sig .tc := ⟨.hbm, 281, rfl⟩
abbrev main_call0_v138 : Ref sig .tc := ⟨.hbm, 282, rfl⟩
abbrev main_call0_v139 : Ref sig .tc := ⟨.hbm, 283, rfl⟩
abbrev main_call0_v140 : Ref sig .tc := ⟨.hbm, 284, rfl⟩
abbrev main_call0_v141 : Ref sig .tc := ⟨.hbm, 285, rfl⟩
abbrev main_call0_v142 : Ref sig .tc := ⟨.hbm, 286, rfl⟩
abbrev main_call0_v143 : Ref sig .tc := ⟨.hbm, 287, rfl⟩
abbrev main_call0_v144 : Ref sig .tc := ⟨.hbm, 288, rfl⟩
abbrev main_call0_v145 : Ref sig .tc := ⟨.hbm, 289, rfl⟩
abbrev main_call0_v146 : Ref sig .tc := ⟨.hbm, 290, rfl⟩
abbrev main_call0_cst_36 : Ref sig .tc := ⟨.hbm, 291, rfl⟩
abbrev main_call0_v147 : Ref sig .tc := ⟨.hbm, 292, rfl⟩
abbrev main_call0_v148 : Ref sig .tc := ⟨.hbm, 293, rfl⟩
abbrev main_call0_cst_37 : Ref sig .tc := ⟨.hbm, 294, rfl⟩
abbrev main_call0_v149 : Ref sig .tc := ⟨.hbm, 295, rfl⟩
abbrev main_call0_v150 : Ref sig .tc := ⟨.hbm, 296, rfl⟩
abbrev main_call0_v151 : Ref sig .tc := ⟨.hbm, 297, rfl⟩
abbrev main_call0_cst_38 : Ref sig .tc := ⟨.hbm, 298, rfl⟩
abbrev main_call0_v152 : Ref sig .tc := ⟨.hbm, 299, rfl⟩
abbrev main_call0_v153 : Ref sig .tc := ⟨.hbm, 300, rfl⟩
abbrev main_call0_v154 : Ref sig .tc := ⟨.hbm, 301, rfl⟩
abbrev main_call0_cst_39 : Ref sig .tc := ⟨.hbm, 302, rfl⟩
abbrev main_call0_v155 : Ref sig .tc := ⟨.hbm, 303, rfl⟩
abbrev main_call0_v156 : Ref sig .tc := ⟨.hbm, 304, rfl⟩
abbrev main_call0_v157 : Ref sig .tc := ⟨.hbm, 305, rfl⟩
abbrev main_call0_c_40 : Ref sig .tc := ⟨.hbm, 306, rfl⟩
abbrev main_call0_c_41 : Ref sig .tc := ⟨.hbm, 307, rfl⟩
abbrev main_call0_call9_v0 : Ref sig .tc := ⟨.hbm, 308, rfl⟩
abbrev main_call0_call9_v1 : Ref sig .tc := ⟨.hbm, 309, rfl⟩
abbrev main_call0_call9_v2 : Ref sig .tc := ⟨.hbm, 310, rfl⟩
abbrev main_call0_call9_v3 : Ref sig .tc := ⟨.hbm, 311, rfl⟩
abbrev main_call0_call9_v4 : Ref sig .tc := ⟨.hbm, 312, rfl⟩
abbrev main_call0_v158 : Ref sig .tc := ⟨.hbm, 313, rfl⟩
abbrev main_call0_v159 : Ref sig .tc := ⟨.hbm, 314, rfl⟩
abbrev main_call0_c_42 : Ref sig .tc := ⟨.hbm, 315, rfl⟩
abbrev main_call0_c_43 : Ref sig .tc := ⟨.hbm, 316, rfl⟩
abbrev main_call0_call10_v0 : Ref sig .tc := ⟨.hbm, 317, rfl⟩
abbrev main_call0_call10_v1 : Ref sig .tc := ⟨.hbm, 318, rfl⟩
abbrev main_call0_call10_v2 : Ref sig .tc := ⟨.hbm, 319, rfl⟩
abbrev main_call0_call10_v3 : Ref sig .tc := ⟨.hbm, 320, rfl⟩
abbrev main_call0_call10_v4 : Ref sig .tc := ⟨.hbm, 321, rfl⟩
abbrev main_call0_v160 : Ref sig .tc := ⟨.hbm, 322, rfl⟩
abbrev main_call0_v161 : Ref sig .tc := ⟨.hbm, 323, rfl⟩
abbrev main_call0_c_44 : Ref sig .tc := ⟨.hbm, 324, rfl⟩
abbrev main_call0_v162 : Ref sig .tc := ⟨.hbm, 325, rfl⟩
abbrev main_call0_v163 : Ref sig .tc := ⟨.hbm, 326, rfl⟩
abbrev main_call0_v164 : Ref sig .tc := ⟨.hbm, 327, rfl⟩
abbrev main_call0_v165 : Ref sig .tc := ⟨.hbm, 328, rfl⟩
abbrev main_call0_call11_c : Ref sig .tc := ⟨.hbm, 329, rfl⟩
abbrev main_call0_call11_v0 : Ref sig .tc := ⟨.hbm, 330, rfl⟩
abbrev main_call0_call11_v1 : Ref sig .tc := ⟨.hbm, 331, rfl⟩
abbrev main_call0_call11_c_0 : Ref sig .tc := ⟨.hbm, 332, rfl⟩
abbrev main_call0_call11_v2 : Ref sig .tc := ⟨.hbm, 333, rfl⟩
abbrev main_call0_call11_v3 : Ref sig .tc := ⟨.hbm, 334, rfl⟩
abbrev main_call0_call11_v4 : Ref sig .tc := ⟨.hbm, 335, rfl⟩
abbrev main_call0_call11_v5 : Ref sig .tc := ⟨.hbm, 336, rfl⟩
abbrev main_call0_call11_c_1 : Ref sig .tc := ⟨.hbm, 337, rfl⟩
abbrev main_call0_call11_c_2 : Ref sig .tc := ⟨.hbm, 338, rfl⟩
abbrev main_call0_call11_v6 : Ref sig .tc := ⟨.hbm, 339, rfl⟩
abbrev main_call0_call11_v7 : Ref sig .tc := ⟨.hbm, 340, rfl⟩
abbrev main_call0_call11_v8 : Ref sig .tc := ⟨.hbm, 341, rfl⟩
abbrev main_call0_call11_v9 : Ref sig .tc := ⟨.hbm, 342, rfl⟩
abbrev main_call0_call11_v10 : Ref sig .tc := ⟨.hbm, 343, rfl⟩
abbrev main_call0_call11_v11 : Ref sig .tc := ⟨.hbm, 344, rfl⟩
abbrev main_call0_call11_c_3 : Ref sig .tc := ⟨.hbm, 345, rfl⟩
abbrev main_call0_call11_v12 : Ref sig .tc := ⟨.hbm, 346, rfl⟩
abbrev main_call0_call11_v13 : Ref sig .tc := ⟨.hbm, 347, rfl⟩
abbrev main_call0_call11_v14 : Ref sig .tc := ⟨.hbm, 348, rfl⟩
abbrev main_call0_call11_cst : Ref sig .tc := ⟨.hbm, 349, rfl⟩
abbrev main_call0_call11_v15 : Ref sig .tc := ⟨.hbm, 350, rfl⟩
abbrev main_call0_v166 : Ref sig .tc := ⟨.hbm, 351, rfl⟩
abbrev main_call0_v167 : Ref sig .tc := ⟨.hbm, 352, rfl⟩
abbrev main_call0_v168 : Ref sig .tc := ⟨.hbm, 353, rfl⟩
abbrev main_call0_v169 : Ref sig .tc := ⟨.hbm, 354, rfl⟩
abbrev main_call0_v170 : Ref sig .tc := ⟨.hbm, 355, rfl⟩
abbrev main_call0_v171 : Ref sig .tc := ⟨.hbm, 356, rfl⟩
abbrev main_call0_v172 : Ref sig .tc := ⟨.hbm, 357, rfl⟩
abbrev main_call0_v173 : Ref sig .tc := ⟨.hbm, 358, rfl⟩
abbrev main_call0_v174 : Ref sig .tc := ⟨.hbm, 359, rfl⟩
abbrev main_call0_v175 : Ref sig .tc := ⟨.hbm, 360, rfl⟩
abbrev main_call0_v176 : Ref sig .tc := ⟨.hbm, 361, rfl⟩
abbrev main_call0_v177 : Ref sig .tc := ⟨.hbm, 362, rfl⟩
abbrev main_call0_v178 : Ref sig .tc := ⟨.hbm, 363, rfl⟩
abbrev main_call0_v179 : Ref sig .tc := ⟨.hbm, 364, rfl⟩
abbrev main_call0_v180 : Ref sig .tc := ⟨.hbm, 365, rfl⟩
abbrev main_call0_v181 : Ref sig .tc := ⟨.hbm, 366, rfl⟩
abbrev main_call0_cst_45 : Ref sig .tc := ⟨.hbm, 367, rfl⟩
abbrev main_call0_v182 : Ref sig .tc := ⟨.hbm, 368, rfl⟩
abbrev main_call0_v183 : Ref sig .tc := ⟨.hbm, 369, rfl⟩
abbrev main_call0_v184 : Ref sig .tc := ⟨.hbm, 370, rfl⟩
abbrev main_call0_v185 : Ref sig .tc := ⟨.hbm, 371, rfl⟩
abbrev main_call0_v186 : Ref sig .tc := ⟨.hbm, 372, rfl⟩
abbrev main_call0_v187 : Ref sig .tc := ⟨.hbm, 373, rfl⟩
abbrev main_call0_v188 : Ref sig .tc := ⟨.hbm, 374, rfl⟩
abbrev main_v0 : Ref sig .tc := ⟨.hbm, 375, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4x384x32x32 : Shape := ⟨4, ![4, 384, 32, 32]⟩
abbrev S4x1024x2 : Shape := ⟨3, ![4, 1024, 2]⟩
abbrev S384x384 : Shape := ⟨2, ![384, 384]⟩
abbrev S384 : Shape := ⟨1, ![384]⟩
abbrev S72x384 : Shape := ⟨2, ![72, 384]⟩
abbrev S72 : Shape := ⟨1, ![72]⟩
abbrev S18x384 : Shape := ⟨2, ![18, 384]⟩
abbrev S18 : Shape := ⟨1, ![18]⟩
abbrev S384x4x32x32 : Shape := ⟨4, ![384, 4, 32, 32]⟩
abbrev S1x384x1x1 : Shape := ⟨4, ![1, 384, 1, 1]⟩
abbrev S72x4x32x32 : Shape := ⟨4, ![72, 4, 32, 32]⟩
abbrev S4x72x32x32 : Shape := ⟨4, ![4, 72, 32, 32]⟩
abbrev S1x72x1x1 : Shape := ⟨4, ![1, 72, 1, 1]⟩
abbrev S4x32x32x72 : Shape := ⟨4, ![4, 32, 32, 72]⟩
abbrev S4x1024x9x8 : Shape := ⟨4, ![4, 1024, 9, 8]⟩
abbrev S_ : Shape := ⟨0, ![]⟩
abbrev S4x1024x8 : Shape := ⟨3, ![4, 1024, 8]⟩
abbrev S4x1024x1x8 : Shape := ⟨4, ![4, 1024, 1, 8]⟩
abbrev S18x4x32x32 : Shape := ⟨4, ![18, 4, 32, 32]⟩
abbrev S4x18x32x32 : Shape := ⟨4, ![4, 18, 32, 32]⟩
abbrev S1x18x1x1 : Shape := ⟨4, ![1, 18, 1, 1]⟩
abbrev S4x32x32x18 : Shape := ⟨4, ![4, 32, 32, 18]⟩
abbrev S4x1024x9x2 : Shape := ⟨4, ![4, 1024, 9, 2]⟩
abbrev S4x1024x1x2 : Shape := ⟨4, ![4, 1024, 1, 2]⟩
abbrev S4x9216x2 : Shape := ⟨3, ![4, 9216, 2]⟩
abbrev S4x9216x1 : Shape := ⟨3, ![4, 9216, 1]⟩
abbrev S4x9216 : Shape := ⟨2, ![4, 9216]⟩
abbrev S4x384x1024 : Shape := ⟨3, ![4, 384, 1024]⟩
abbrev S4x1x9216 : Shape := ⟨3, ![4, 1, 9216]⟩
abbrev S1 : Shape := ⟨1, ![1]⟩
abbrev S1x1x1 : Shape := ⟨3, ![1, 1, 1]⟩
abbrev S4x384x9216 : Shape := ⟨3, ![4, 384, 9216]⟩
abbrev S4x9216x384 : Shape := ⟨3, ![4, 9216, 384]⟩
abbrev S4x9216x8x48 : Shape := ⟨4, ![4, 9216, 8, 48]⟩
abbrev S4x9216x8x1 : Shape := ⟨4, ![4, 9216, 8, 1]⟩
abbrev S4x1024x9x384 : Shape := ⟨4, ![4, 1024, 9, 384]⟩
abbrev S4x1024x384 : Shape := ⟨3, ![4, 1024, 384]⟩
abbrev S4x32x32x384 : Shape := ⟨4, ![4, 32, 32, 384]⟩

abbrev nBuf : Space → Nat
  | .hbm => 374
  | .vmem => 0
  | .smem => 0
  | _ => 0

abbrev hbmTy0_0 (i : Nat) : BufTy := match i % 128 with
  | 0 => ⟨S4x384x32x32, .f32⟩
  | 1 => ⟨S4x1024x2, .f32⟩
  | 2 => ⟨S384x384, .f32⟩
  | 3 => ⟨S384, .f32⟩
  | 4 => ⟨S72x384, .f32⟩
  | 5 => ⟨S72, .f32⟩
  | 6 => ⟨S18x384, .f32⟩
  | 7 => ⟨S18, .f32⟩
  | 8 => ⟨S384x384, .f32⟩
  | 9 => ⟨S384, .f32⟩
  | 10 => ⟨S384x4x32x32, .f32⟩
  | 11 => ⟨S4x384x32x32, .f32⟩
  | 12 => ⟨S1x384x1x1, .f32⟩
  | 13 => ⟨S4x384x32x32, .f32⟩
  | 14 => ⟨S4x384x32x32, .f32⟩
  | 15 => ⟨S72x4x32x32, .f32⟩
  | 16 => ⟨S4x72x32x32, .f32⟩
  | 17 => ⟨S1x72x1x1, .f32⟩
  | 18 => ⟨S4x72x32x32, .f32⟩
  | 19 => ⟨S4x72x32x32, .f32⟩
  | 20 => ⟨S4x32x32x72, .f32⟩
  | 21 => ⟨S4x1024x9x8, .f32⟩
  | 22 => ⟨S_, .f32⟩
  | 23 => ⟨S4x1024x8, .f32⟩
  | 24 => ⟨S_, .f32⟩
  | 25 => ⟨S4x1024x8, .f32⟩
  | 26 => ⟨S4x1024x8, .f32⟩
  | 27 => ⟨S4x1024x1x8, .f32⟩
  | 28 => ⟨S4x1024x9x8, .f32⟩
  | 29 => ⟨S4x1024x9x8, .f32⟩
  | 30 => ⟨S4x1024x9x8, .f32⟩
  | 31 => ⟨S_, .f32⟩
  | 32 => ⟨S4x1024x8, .f32⟩
  | 33 => ⟨S4x1024x1x8, .f32⟩
  | 34 => ⟨S4x1024x9x8, .f32⟩
  | 35 => ⟨S4x1024x9x8, .f32⟩
  | 36 => ⟨S18x4x32x32, .f32⟩
  | 37 => ⟨S4x18x32x32, .f32⟩
  | 38 => ⟨S1x18x1x1, .f32⟩
  | 39 => ⟨S4x18x32x32, .f32⟩
  | 40 => ⟨S4x18x32x32, .f32⟩
  | 41 => ⟨S4x32x32x18, .f32⟩
  | 42 => ⟨S4x1024x9x2, .f32⟩
  | 43 => ⟨S4x1024x1x2, .f32⟩
  | 44 => ⟨S4x1024x9x2, .f32⟩
  | 45 => ⟨S4x1024x9x2, .f32⟩
  | 46 => ⟨S4x9216x2, .f32⟩
  | 47 => ⟨S4x9216x1, .f32⟩
  | 48 => ⟨S4x9216, .f32⟩
  | 49 => ⟨S_, .f32⟩
  | 50 => ⟨S4x9216, .f32⟩
  | 51 => ⟨S4x9216, .f32⟩
  | 52 => ⟨S_, .f32⟩
  | 53 => ⟨S4x9216, .f32⟩
  | 54 => ⟨S4x9216, .f32⟩
  | 55 => ⟨S4x9216x1, .f32⟩
  | 56 => ⟨S4x9216, .f32⟩
  | 57 => ⟨S_, .f32⟩
  | 58 => ⟨S4x9216, .f32⟩
  | 59 => ⟨S4x9216, .f32⟩
  | 60 => ⟨S_, .f32⟩
  | 61 => ⟨S4x9216, .f32⟩
  | 62 => ⟨S4x9216, .f32⟩
  | 63 => ⟨S4x9216, .f32⟩
  | 64 => ⟨S4x9216, .f32⟩
  | 65 => ⟨S_, .f32⟩
  | 66 => ⟨S4x9216, .f32⟩
  | 67 => ⟨S4x9216, .f32⟩
  | 68 => ⟨S_, .f32⟩
  | 69 => ⟨S4x9216, .f32⟩
  | 70 => ⟨S4x9216, .f32⟩
  | 71 => ⟨S4x9216, .f32⟩
  | 72 => ⟨S_, .f32⟩
  | 73 => ⟨S4x9216, .f32⟩
  | 74 => ⟨S4x9216, .f32⟩
  | 75 => ⟨S4x9216, .f32⟩
  | 76 => ⟨S_, .f32⟩
  | 77 => ⟨S4x9216, .f32⟩
  | 78 => ⟨S4x9216, .f32⟩
  | 79 => ⟨S4x384x1024, .f32⟩
  | 80 => ⟨S_, .f32⟩
  | 81 => ⟨S4x9216, .f32⟩
  | 82 => ⟨S4x9216, .i1⟩
  | 83 => ⟨S_, .f32⟩
  | 84 => ⟨S4x9216, .f32⟩
  | 85 => ⟨S4x9216, .i1⟩
  | 86 => ⟨S4x9216, .i1⟩
  | 87 => ⟨S_, .f32⟩
  | 88 => ⟨S4x9216, .f32⟩
  | 89 => ⟨S4x9216, .i1⟩
  | 90 => ⟨S4x9216, .i1⟩
  | 91 => ⟨S_, .f32⟩
  | 92 => ⟨S4x9216, .f32⟩
  | 93 => ⟨S4x9216, .i1⟩
  | 94 => ⟨S4x9216, .i1⟩
  | 95 => ⟨S_, .i32⟩
  | 96 => ⟨S_, .i32⟩
  | 97 => ⟨S_, .f32⟩
  | 98 => ⟨S4x9216, .f32⟩
  | 99 => ⟨S4x9216, .f32⟩
  | 100 => ⟨S_, .f32⟩
  | 101 => ⟨S4x9216, .f32⟩
  | 102 => ⟨S4x9216, .f32⟩
  | 103 => ⟨S4x9216, .i32⟩
  | 104 => ⟨S_, .i32⟩
  | 105 => ⟨S_, .i32⟩
  | 106 => ⟨S_, .f32⟩
  | 107 => ⟨S4x9216, .f32⟩
  | 108 => ⟨S4x9216, .f32⟩
  | 109 => ⟨S_, .f32⟩
  | 110 => ⟨S4x9216, .f32⟩
  | 111 => ⟨S4x9216, .f32⟩
  | 112 => ⟨S4x9216, .i32⟩
  | 113 => ⟨S_, .i32⟩
  | 114 => ⟨S4x9216, .i32⟩
  | 115 => ⟨S4x9216, .i32⟩
  | 116 => ⟨S4x9216, .i32⟩
  | 117 => ⟨S4x1x9216, .i32⟩
  | 118 => ⟨S_, .i32⟩
  | 119 => ⟨S4x1x9216, .i32⟩
  | 120 => ⟨S4x1x9216, .i1⟩
  | 121 => ⟨S_, .i32⟩
  | 122 => ⟨S4x1x9216, .i32⟩
  | 123 => ⟨S4x1x9216, .i32⟩
  | 124 => ⟨S4x1x9216, .i32⟩
  | 125 => ⟨S4x9216x1, .i32⟩
  | 126 => ⟨S1, .i32⟩
  | 127 => ⟨S_, .i32⟩
  | _ => ⟨S4x384x32x32, .f32⟩

abbrev hbmTy0_1 (i : Nat) : BufTy := match i % 128 with
  | 0 => ⟨S4x9216x1, .i32⟩
  | 1 => ⟨S4x9216x1, .i1⟩
  | 2 => ⟨S1x1x1, .i32⟩
  | 3 => ⟨S4x9216x1, .i32⟩
  | 4 => ⟨S4x9216x1, .i1⟩
  | 5 => ⟨S4x9216x1, .i1⟩
  | 6 => ⟨S_, .i1⟩
  | 7 => ⟨S4x9216, .i1⟩
  | 8 => ⟨S4x384x9216, .f32⟩
  | 9 => ⟨S4x384x9216, .i1⟩
  | 10 => ⟨S_, .f32⟩
  | 11 => ⟨S4x384x9216, .f32⟩
  | 12 => ⟨S4x384x9216, .f32⟩
  | 13 => ⟨S4x1x9216, .i1⟩
  | 14 => ⟨S4x1x9216, .f32⟩
  | 15 => ⟨S4x384x9216, .f32⟩
  | 16 => ⟨S4x384x9216, .f32⟩
  | 17 => ⟨S4x9216, .f32⟩
  | 18 => ⟨S4x1x9216, .f32⟩
  | 19 => ⟨S4x384x9216, .f32⟩
  | 20 => ⟨S4x384x9216, .f32⟩
  | 21 => ⟨S_, .f32⟩
  | 22 => ⟨S4x9216, .f32⟩
  | 23 => ⟨S4x9216, .i1⟩
  | 24 => ⟨S_, .f32⟩
  | 25 => ⟨S4x9216, .f32⟩
  | 26 => ⟨S4x9216, .i1⟩
  | 27 => ⟨S4x9216, .i1⟩
  | 28 => ⟨S_, .f32⟩
  | 29 => ⟨S4x9216, .f32⟩
  | 30 => ⟨S4x9216, .i1⟩
  | 31 => ⟨S4x9216, .i1⟩
  | 32 => ⟨S_, .f32⟩
  | 33 => ⟨S4x9216, .f32⟩
  | 34 => ⟨S4x9216, .i1⟩
  | 35 => ⟨S4x9216, .i1⟩
  | 36 => ⟨S_, .i32⟩
  | 37 => ⟨S_, .i32⟩
  | 38 => ⟨S_, .f32⟩
  | 39 => ⟨S4x9216, .f32⟩
  | 40 => ⟨S4x9216, .f32⟩
  | 41 => ⟨S_, .f32⟩
  | 42 => ⟨S4x9216, .f32⟩
  | 43 => ⟨S4x9216, .f32⟩
  | 44 => ⟨S4x9216, .i32⟩
  | 45 => ⟨S_, .i32⟩
  | 46 => ⟨S_, .i32⟩
  | 47 => ⟨S_, .f32⟩
  | 48 => ⟨S4x9216, .f32⟩
  | 49 => ⟨S4x9216, .f32⟩
  | 50 => ⟨S_, .f32⟩
  | 51 => ⟨S4x9216, .f32⟩
  | 52 => ⟨S4x9216, .f32⟩
  | 53 => ⟨S4x9216, .i32⟩
  | 54 => ⟨S_, .i32⟩
  | 55 => ⟨S4x9216, .i32⟩
  | 56 => ⟨S4x9216, .i32⟩
  | 57 => ⟨S4x9216, .i32⟩
  | 58 => ⟨S4x1x9216, .i32⟩
  | 59 => ⟨S_, .i32⟩
  | 60 => ⟨S4x1x9216, .i32⟩
  | 61 => ⟨S4x1x9216, .i1⟩
  | 62 => ⟨S_, .i32⟩
  | 63 => ⟨S4x1x9216, .i32⟩
  | 64 => ⟨S4x1x9216, .i32⟩
  | 65 => ⟨S4x1x9216, .i32⟩
  | 66 => ⟨S4x9216x1, .i32⟩
  | 67 => ⟨S1, .i32⟩
  | 68 => ⟨S_, .i32⟩
  | 69 => ⟨S4x9216x1, .i32⟩
  | 70 => ⟨S4x9216x1, .i1⟩
  | 71 => ⟨S1x1x1, .i32⟩
  | 72 => ⟨S4x9216x1, .i32⟩
  | 73 => ⟨S4x9216x1, .i1⟩
  | 74 => ⟨S4x9216x1, .i1⟩
  | 75 => ⟨S_, .i1⟩
  | 76 => ⟨S4x9216, .i1⟩
  | 77 => ⟨S4x384x9216, .f32⟩
  | 78 => ⟨S4x384x9216, .i1⟩
  | 79 => ⟨S_, .f32⟩
  | 80 => ⟨S4x384x9216, .f32⟩
  | 81 => ⟨S4x384x9216, .f32⟩
  | 82 => ⟨S4x1x9216, .i1⟩
  | 83 => ⟨S4x1x9216, .f32⟩
  | 84 => ⟨S4x384x9216, .f32⟩
  | 85 => ⟨S4x384x9216, .f32⟩
  | 86 => ⟨S4x9216, .f32⟩
  | 87 => ⟨S4x1x9216, .f32⟩
  | 88 => ⟨S4x384x9216, .f32⟩
  | 89 => ⟨S4x384x9216, .f32⟩
  | 90 => ⟨S4x384x9216, .f32⟩
  | 91 => ⟨S_, .f32⟩
  | 92 => ⟨S4x9216, .f32⟩
  | 93 => ⟨S4x9216, .i1⟩
  | 94 => ⟨S_, .f32⟩
  | 95 => ⟨S4x9216, .f32⟩
  | 96 => ⟨S4x9216, .i1⟩
  | 97 => ⟨S4x9216, .i1⟩
  | 98 => ⟨S_, .f32⟩
  | 99 => ⟨S4x9216, .f32⟩
  | 100 => ⟨S4x9216, .i1⟩
  | 101 => ⟨S4x9216, .i1⟩
  | 102 => ⟨S_, .f32⟩
  | 103 => ⟨S4x9216, .f32⟩
  | 104 => ⟨S4x9216, .i1⟩
  | 105 => ⟨S4x9216, .i1⟩
  | 106 => ⟨S_, .i32⟩
  | 107 => ⟨S_, .i32⟩
  | 108 => ⟨S_, .f32⟩
  | 109 => ⟨S4x9216, .f32⟩
  | 110 => ⟨S4x9216, .f32⟩
  | 111 => ⟨S_, .f32⟩
  | 112 => ⟨S4x9216, .f32⟩
  | 113 => ⟨S4x9216, .f32⟩
  | 114 => ⟨S4x9216, .i32⟩
  | 115 => ⟨S_, .i32⟩
  | 116 => ⟨S_, .i32⟩
  | 117 => ⟨S_, .f32⟩
  | 118 => ⟨S4x9216, .f32⟩
  | 119 => ⟨S4x9216, .f32⟩
  | 120 => ⟨S_, .f32⟩
  | 121 => ⟨S4x9216, .f32⟩
  | 122 => ⟨S4x9216, .f32⟩
  | 123 => ⟨S4x9216, .i32⟩
  | 124 => ⟨S_, .i32⟩
  | 125 => ⟨S4x9216, .i32⟩
  | 126 => ⟨S4x9216, .i32⟩
  | 127 => ⟨S4x9216, .i32⟩
  | _ => ⟨S4x384x32x32, .f32⟩

abbrev hbmTy0_2 (i : Nat) : BufTy := match i % 128 with
  | 0 => ⟨S4x1x9216, .i32⟩
  | 1 => ⟨S_, .i32⟩
  | 2 => ⟨S4x1x9216, .i32⟩
  | 3 => ⟨S4x1x9216, .i1⟩
  | 4 => ⟨S_, .i32⟩
  | 5 => ⟨S4x1x9216, .i32⟩
  | 6 => ⟨S4x1x9216, .i32⟩
  | 7 => ⟨S4x1x9216, .i32⟩
  | 8 => ⟨S4x9216x1, .i32⟩
  | 9 => ⟨S1, .i32⟩
  | 10 => ⟨S_, .i32⟩
  | 11 => ⟨S4x9216x1, .i32⟩
  | 12 => ⟨S4x9216x1, .i1⟩
  | 13 => ⟨S1x1x1, .i32⟩
  | 14 => ⟨S4x9216x1, .i32⟩
  | 15 => ⟨S4x9216x1, .i1⟩
  | 16 => ⟨S4x9216x1, .i1⟩
  | 17 => ⟨S_, .i1⟩
  | 18 => ⟨S4x9216, .i1⟩
  | 19 => ⟨S4x384x9216, .f32⟩
  | 20 => ⟨S4x384x9216, .i1⟩
  | 21 => ⟨S_, .f32⟩
  | 22 => ⟨S4x384x9216, .f32⟩
  | 23 => ⟨S4x384x9216, .f32⟩
  | 24 => ⟨S4x1x9216, .i1⟩
  | 25 => ⟨S4x1x9216, .f32⟩
  | 26 => ⟨S4x384x9216, .f32⟩
  | 27 => ⟨S4x384x9216, .f32⟩
  | 28 => ⟨S4x9216, .f32⟩
  | 29 => ⟨S4x1x9216, .f32⟩
  | 30 => ⟨S4x384x9216, .f32⟩
  | 31 => ⟨S4x384x9216, .f32⟩
  | 32 => ⟨S4x384x9216, .f32⟩
  | 33 => ⟨S_, .f32⟩
  | 34 => ⟨S4x9216, .f32⟩
  | 35 => ⟨S4x9216, .i1⟩
  | 36 => ⟨S_, .f32⟩
  | 37 => ⟨S4x9216, .f32⟩
  | 38 => ⟨S4x9216, .i1⟩
  | 39 => ⟨S4x9216, .i1⟩
  | 40 => ⟨S_, .f32⟩
  | 41 => ⟨S4x9216, .f32⟩
  | 42 => ⟨S4x9216, .i1⟩
  | 43 => ⟨S4x9216, .i1⟩
  | 44 => ⟨S_, .f32⟩
  | 45 => ⟨S4x9216, .f32⟩
  | 46 => ⟨S4x9216, .i1⟩
  | 47 => ⟨S4x9216, .i1⟩
  | 48 => ⟨S_, .i32⟩
  | 49 => ⟨S_, .i32⟩
  | 50 => ⟨S_, .f32⟩
  | 51 => ⟨S4x9216, .f32⟩
  | 52 => ⟨S4x9216, .f32⟩
  | 53 => ⟨S_, .f32⟩
  | 54 => ⟨S4x9216, .f32⟩
  | 55 => ⟨S4x9216, .f32⟩
  | 56 => ⟨S4x9216, .i32⟩
  | 57 => ⟨S_, .i32⟩
  | 58 => ⟨S_, .i32⟩
  | 59 => ⟨S_, .f32⟩
  | 60 => ⟨S4x9216, .f32⟩
  | 61 => ⟨S4x9216, .f32⟩
  | 62 => ⟨S_, .f32⟩
  | 63 => ⟨S4x9216, .f32⟩
  | 64 => ⟨S4x9216, .f32⟩
  | 65 => ⟨S4x9216, .i32⟩
  | 66 => ⟨S_, .i32⟩
  | 67 => ⟨S4x9216, .i32⟩
  | 68 => ⟨S4x9216, .i32⟩
  | 69 => ⟨S4x9216, .i32⟩
  | 70 => ⟨S4x1x9216, .i32⟩
  | 71 => ⟨S_, .i32⟩
  | 72 => ⟨S4x1x9216, .i32⟩
  | 73 => ⟨S4x1x9216, .i1⟩
  | 74 => ⟨S_, .i32⟩
  | 75 => ⟨S4x1x9216, .i32⟩
  | 76 => ⟨S4x1x9216, .i32⟩
  | 77 => ⟨S4x1x9216, .i32⟩
  | 78 => ⟨S4x9216x1, .i32⟩
  | 79 => ⟨S1, .i32⟩
  | 80 => ⟨S_, .i32⟩
  | 81 => ⟨S4x9216x1, .i32⟩
  | 82 => ⟨S4x9216x1, .i1⟩
  | 83 => ⟨S1x1x1, .i32⟩
  | 84 => ⟨S4x9216x1, .i32⟩
  | 85 => ⟨S4x9216x1, .i1⟩
  | 86 => ⟨S4x9216x1, .i1⟩
  | 87 => ⟨S_, .i1⟩
  | 88 => ⟨S4x9216, .i1⟩
  | 89 => ⟨S4x384x9216, .f32⟩
  | 90 => ⟨S4x384x9216, .i1⟩
  | 91 => ⟨S_, .f32⟩
  | 92 => ⟨S4x384x9216, .f32⟩
  | 93 => ⟨S4x384x9216, .f32⟩
  | 94 => ⟨S4x1x9216, .i1⟩
  | 95 => ⟨S4x1x9216, .f32⟩
  | 96 => ⟨S4x384x9216, .f32⟩
  | 97 => ⟨S4x384x9216, .f32⟩
  | 98 => ⟨S4x9216, .f32⟩
  | 99 => ⟨S4x1x9216, .f32⟩
  | 100 => ⟨S4x384x9216, .f32⟩
  | 101 => ⟨S4x384x9216, .f32⟩
  | 102 => ⟨S4x384x9216, .f32⟩
  | 103 => ⟨S4x9216x384, .f32⟩
  | 104 => ⟨S4x9216x8x48, .f32⟩
  | 105 => ⟨S4x9216x8x1, .f32⟩
  | 106 => ⟨S4x9216x8x48, .f32⟩
  | 107 => ⟨S4x9216x8x48, .f32⟩
  | 108 => ⟨S4x1024x9x384, .f32⟩
  | 109 => ⟨S_, .f32⟩
  | 110 => ⟨S4x1024x384, .f32⟩
  | 111 => ⟨S4x32x32x384, .f32⟩
  | 112 => ⟨S4x384x32x32, .f32⟩
  | 113 => ⟨S384x4x32x32, .f32⟩
  | 114 => ⟨S4x384x32x32, .f32⟩
  | 115 => ⟨S1x384x1x1, .f32⟩
  | 116 => ⟨S4x384x32x32, .f32⟩
  | 117 => ⟨S4x384x32x32, .f32⟩
  | _ => ⟨S4x384x32x32, .f32⟩

abbrev hbmTy (i : Nat) : BufTy := match i / 128 with
  | 0 => hbmTy0_0 i
  | 1 => hbmTy0_1 i
  | 2 => hbmTy0_2 i
  | _ => ⟨S4x384x32x32, .f32⟩

abbrev bufTy : (tb : Table) → Fin (tcTables nBuf tb) → BufTy
  | .hbm, ⟨i, _⟩ => hbmTy i
  | _, _ => ⟨S4x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c : Ref sig .tc := ⟨.hbm, 95, rfl⟩
abbrev main_c_14 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_c_16 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_v72 : Ref sig .tc := ⟨.hbm, 111, rfl⟩
abbrev main_v73 : Ref sig .tc := ⟨.hbm, 112, rfl⟩
abbrev main_c_17 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_18 : Ref sig .tc := ⟨.hbm, 149, rfl⟩
abbrev main_v87 : Ref sig .tc := ⟨.hbm, 150, rfl⟩
abbrev main_v88 : Ref sig .tc := ⟨.hbm, 151, rfl⟩
abbrev main_cst_19 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_cst_20 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_cst_21 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_c_22 : Ref sig .tc := ⟨.hbm, 164, rfl⟩
abbrev main_c_23 : Ref sig .tc := ⟨.hbm, 165, rfl⟩
abbrev main_call3_v0 : Ref sig .tc := ⟨.hbm, 166, rfl⟩
abbrev main_call3_v1 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_v98 : Ref sig .tc := ⟨.hbm, 171, rfl⟩
abbrev main_v99 : Ref sig .tc := ⟨.hbm, 172, rfl⟩
abbrev main_c_24 : Ref sig .tc := ⟨.hbm, 173, rfl⟩
abbrev main_c_25 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_v100 : Ref sig .tc := ⟨.hbm, 180, rfl⟩
abbrev main_v101 : Ref sig .tc := ⟨.hbm, 181, rfl⟩
abbrev main_c_26 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_call5_c : Ref sig .tc := ⟨.hbm, 187, rfl⟩
abbrev main_call5_v0 : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_c_1 : Ref sig .tc := ⟨.hbm, 195, rfl⟩
abbrev main_call5_c_2 : Ref sig .tc := ⟨.hbm, 196, rfl⟩
abbrev main_call5_v6 : Ref sig .tc := ⟨.hbm, 197, rfl⟩
abbrev main_call5_v7 : Ref sig .tc := ⟨.hbm, 198, rfl⟩
abbrev main_call5_v8 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_c_3 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_call5_cst : Ref sig .tc := ⟨.hbm, 207, rfl⟩
abbrev main_call5_v15 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_cst_27 : Ref sig .tc := ⟨.hbm, 219, rfl⟩
abbrev main_v116 : Ref sig .tc := ⟨.hbm, 220, rfl⟩
abbrev main_v117 : Ref sig .tc := ⟨.hbm, 221, rfl⟩
abbrev main_cst_28 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_cst_29 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_cst_30 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_c_31 : Ref sig .tc := ⟨.hbm, 234, rfl⟩
abbrev main_c_32 : Ref sig .tc := ⟨.hbm, 235, rfl⟩
abbrev main_call6_v0 : Ref sig .tc := ⟨.hbm, 236, rfl⟩
abbrev main_call6_v1 : Ref sig .tc := ⟨.hbm, 237, rfl⟩
abbrev main_call6_v2 : Ref sig .tc := ⟨.hbm, 238, rfl⟩
abbrev main_call6_v3 : Ref sig .tc := ⟨.hbm, 239, rfl⟩
abbrev main_call6_v4 : Ref sig .tc := ⟨.hbm, 240, rfl⟩
abbrev main_v127 : Ref sig .tc := ⟨.hbm, 241, rfl⟩
abbrev main_v128 : Ref sig .tc := ⟨.hbm, 242, rfl⟩
abbrev main_c_33 : Ref sig .tc := ⟨.hbm, 243, rfl⟩
abbrev main_c_34 : Ref sig .tc := ⟨.hbm, 244, rfl⟩
abbrev main_call7_v0 : Ref sig .tc := ⟨.hbm, 245, rfl⟩
abbrev main_call7_v1 : Ref sig .tc := ⟨.hbm, 246, rfl⟩
abbrev main_call7_v2 : Ref sig .tc := ⟨.hbm, 247, rfl⟩
abbrev main_call7_v3 : Ref sig .tc := ⟨.hbm, 248, rfl⟩
abbrev main_call7_v4 : Ref sig .tc := ⟨.hbm, 249, rfl⟩
abbrev main_v129 : Ref sig .tc := ⟨.hbm, 250, rfl⟩
abbrev main_v130 : Ref sig .tc := ⟨.hbm, 251, rfl⟩
abbrev main_c_35 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_call8_c : Ref sig .tc := ⟨.hbm, 257, rfl⟩
abbrev main_call8_v0 : Ref sig .tc := ⟨.hbm, 258, rfl⟩
abbrev main_call8_v1 : Ref sig .tc := ⟨.hbm, 259, rfl⟩
abbrev main_call8_c_0 : Ref sig .tc := ⟨.hbm, 260, rfl⟩
abbrev main_call8_v2 : Ref sig .tc := ⟨.hbm, 261, rfl⟩
abbrev main_call8_v3 : Ref sig .tc := ⟨.hbm, 262, rfl⟩
abbrev main_call8_v4 : Ref sig .tc := ⟨.hbm, 263, rfl⟩
abbrev main_call8_v5 : Ref sig .tc := ⟨.hbm, 264, rfl⟩
abbrev main_call8_c_1 : Ref sig .tc := ⟨.hbm, 265, rfl⟩
abbrev main_call8_c_2 : Ref sig .tc := ⟨.hbm, 266, rfl⟩
abbrev main_call8_v6 : Ref sig .tc := ⟨.hbm, 267, rfl⟩
abbrev main_call8_v7 : Ref sig .tc := ⟨.hbm, 268, rfl⟩
abbrev main_call8_v8 : Ref sig .tc := ⟨.hbm, 269, rfl⟩
abbrev main_call8_v9 : Ref sig .tc := ⟨.hbm, 270, rfl⟩
abbrev main_call8_v10 : Ref sig .tc := ⟨.hbm, 271, rfl⟩
abbrev main_call8_v11 : Ref sig .tc := ⟨.hbm, 272, rfl⟩
abbrev main_call8_c_3 : Ref sig .tc := ⟨.hbm, 273, rfl⟩
abbrev main_call8_v12 : Ref sig .tc := ⟨.hbm, 274, rfl⟩
abbrev main_call8_v13 : Ref sig .tc := ⟨.hbm, 275, rfl⟩
abbrev main_call8_v14 : Ref sig .tc := ⟨.hbm, 276, rfl⟩
abbrev main_call8_cst : Ref sig .tc := ⟨.hbm, 277, rfl⟩
abbrev main_call8_v15 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩
abbrev main_v138 : Ref sig .tc := ⟨.hbm, 282, rfl⟩
abbrev main_v139 : Ref sig .tc := ⟨.hbm, 283, rfl⟩
abbrev main_v140 : Ref sig .tc := ⟨.hbm, 284, rfl⟩
abbrev main_v141 : Ref sig .tc := ⟨.hbm, 285, rfl⟩
abbrev main_v142 : Ref sig .tc := ⟨.hbm, 286, rfl⟩
abbrev main_v143 : Ref sig .tc := ⟨.hbm, 287, rfl⟩
abbrev main_v144 : Ref sig .tc := ⟨.hbm, 288, rfl⟩
abbrev main_cst_36 : Ref sig .tc := ⟨.hbm, 289, rfl⟩
abbrev main_v145 : Ref sig .tc := ⟨.hbm, 290, rfl⟩
abbrev main_v146 : Ref sig .tc := ⟨.hbm, 291, rfl⟩
abbrev main_cst_37 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_cst_38 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_cst_39 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_c_40 : Ref sig .tc := ⟨.hbm, 304, rfl⟩
abbrev main_c_41 : Ref sig .tc := ⟨.hbm, 305, rfl⟩
abbrev main_call9_v0 : Ref sig .tc := ⟨.hbm, 306, rfl⟩
abbrev main_call9_v1 : Ref sig .tc := ⟨.hbm, 307, rfl⟩
abbrev main_call9_v2 : Ref sig .tc := ⟨.hbm, 308, rfl⟩
abbrev main_call9_v3 : Ref sig .tc := ⟨.hbm, 309, rfl⟩
abbrev main_call9_v4 : Ref sig .tc := ⟨.hbm, 310, rfl⟩
abbrev main_v156 : Ref sig .tc := ⟨.hbm, 311, rfl⟩
abbrev main_v157 : Ref sig .tc := ⟨.hbm, 312, rfl⟩
abbrev main_c_42 : Ref sig .tc := ⟨.hbm, 313, rfl⟩
abbrev main_c_43 : Ref sig .tc := ⟨.hbm, 314, rfl⟩
abbrev main_call10_v0 : Ref sig .tc := ⟨.hbm, 315, rfl⟩
abbrev main_call10_v1 : Ref sig .tc := ⟨.hbm, 316, rfl⟩
abbrev main_call10_v2 : Ref sig .tc := ⟨.hbm, 317, rfl⟩
abbrev main_call10_v3 : Ref sig .tc := ⟨.hbm, 318, rfl⟩
abbrev main_call10_v4 : Ref sig .tc := ⟨.hbm, 319, rfl⟩
abbrev main_v158 : Ref sig .tc := ⟨.hbm, 320, rfl⟩
abbrev main_v159 : Ref sig .tc := ⟨.hbm, 321, rfl⟩
abbrev main_c_44 : Ref sig .tc := ⟨.hbm, 322, rfl⟩
abbrev main_v160 : Ref sig .tc := ⟨.hbm, 323, rfl⟩
abbrev main_v161 : Ref sig .tc := ⟨.hbm, 324, rfl⟩
abbrev main_v162 : Ref sig .tc := ⟨.hbm, 325, rfl⟩
abbrev main_v163 : Ref sig .tc := ⟨.hbm, 326, rfl⟩
abbrev main_call11_c : Ref sig .tc := ⟨.hbm, 327, rfl⟩
abbrev main_call11_v0 : Ref sig .tc := ⟨.hbm, 328, rfl⟩
abbrev main_call11_v1 : Ref sig .tc := ⟨.hbm, 329, rfl⟩
abbrev main_call11_c_0 : Ref sig .tc := ⟨.hbm, 330, rfl⟩
abbrev main_call11_v2 : Ref sig .tc := ⟨.hbm, 331, rfl⟩
abbrev main_call11_v3 : Ref sig .tc := ⟨.hbm, 332, rfl⟩
abbrev main_call11_v4 : Ref sig .tc := ⟨.hbm, 333, rfl⟩
abbrev main_call11_v5 : Ref sig .tc := ⟨.hbm, 334, rfl⟩
abbrev main_call11_c_1 : Ref sig .tc := ⟨.hbm, 335, rfl⟩
abbrev main_call11_c_2 : Ref sig .tc := ⟨.hbm, 336, rfl⟩
abbrev main_call11_v6 : Ref sig .tc := ⟨.hbm, 337, rfl⟩
abbrev main_call11_v7 : Ref sig .tc := ⟨.hbm, 338, rfl⟩
abbrev main_call11_v8 : Ref sig .tc := ⟨.hbm, 339, rfl⟩
abbrev main_call11_v9 : Ref sig .tc := ⟨.hbm, 340, rfl⟩
abbrev main_call11_v10 : Ref sig .tc := ⟨.hbm, 341, rfl⟩
abbrev main_call11_v11 : Ref sig .tc := ⟨.hbm, 342, rfl⟩
abbrev main_call11_c_3 : Ref sig .tc := ⟨.hbm, 343, rfl⟩
abbrev main_call11_v12 : Ref sig .tc := ⟨.hbm, 344, rfl⟩
abbrev main_call11_v13 : Ref sig .tc := ⟨.hbm, 345, rfl⟩
abbrev main_call11_v14 : Ref sig .tc := ⟨.hbm, 346, rfl⟩
abbrev main_call11_cst : Ref sig .tc := ⟨.hbm, 347, rfl⟩
abbrev main_call11_v15 : Ref sig .tc := ⟨.hbm, 348, rfl⟩
abbrev main_v164 : Ref sig .tc := ⟨.hbm, 349, rfl⟩
abbrev main_v165 : Ref sig .tc := ⟨.hbm, 350, rfl⟩
abbrev main_v166 : Ref sig .tc := ⟨.hbm, 351, rfl⟩
abbrev main_v167 : Ref sig .tc := ⟨.hbm, 352, rfl⟩
abbrev main_v168 : Ref sig .tc := ⟨.hbm, 353, rfl⟩
abbrev main_v169 : Ref sig .tc := ⟨.hbm, 354, rfl⟩
abbrev main_v170 : Ref sig .tc := ⟨.hbm, 355, rfl⟩
abbrev main_v171 : Ref sig .tc := ⟨.hbm, 356, rfl⟩
abbrev main_v172 : Ref sig .tc := ⟨.hbm, 357, rfl⟩
abbrev main_v173 : Ref sig .tc := ⟨.hbm, 358, rfl⟩
abbrev main_v174 : Ref sig .tc := ⟨.hbm, 359, rfl⟩
abbrev main_v175 : Ref sig .tc := ⟨.hbm, 360, rfl⟩
abbrev main_v176 : Ref sig .tc := ⟨.hbm, 361, rfl⟩
abbrev main_v177 : Ref sig .tc := ⟨.hbm, 362, rfl⟩
abbrev main_v178 : Ref sig .tc := ⟨.hbm, 363, rfl⟩
abbrev main_v179 : Ref sig .tc := ⟨.hbm, 364, rfl⟩
abbrev main_cst_45 : Ref sig .tc := ⟨.hbm, 365, rfl⟩
abbrev main_v180 : Ref sig .tc := ⟨.hbm, 366, rfl⟩
abbrev main_v181 : Ref sig .tc := ⟨.hbm, 367, rfl⟩
abbrev main_v182 : Ref sig .tc := ⟨.hbm, 368, rfl⟩
abbrev main_v183 : Ref sig .tc := ⟨.hbm, 369, rfl⟩
abbrev main_v184 : Ref sig .tc := ⟨.hbm, 370, rfl⟩
abbrev main_v185 : Ref sig .tc := ⟨.hbm, 371, rfl⟩
abbrev main_v186 : Ref sig .tc := ⟨.hbm, 372, rfl⟩
abbrev main_v187 : Ref sig .tc := ⟨.hbm, 373, rfl⟩

abbrev nD : Nat := 1
abbrev τ : Topo := Topo.v7x

variable {F : FTy → Type} [FloatOps F]
-- ==== Proof.Stages.lean ====
/-
  The steps between the two channel products, as functions of whole arrays: the softmax over a position's nine points,
  the sampling points, bilinear sampling with zeros outside the map, and the weighted sum of a position's nine samples.
  Both programs are read back as compositions of these functions, so only what is fed into them has to be compared.
-/
module

public import proofs.«01_k».proof.Proof.Gen.KernelIdeal
public import Idealize.ShloMosaic.PureOps.Ideal

@[expose] public section

noncomputable section

namespace Cert.Sampling

open Idealize.ShloMosaic Cert.KernelIdeal Cert.KernelIdeal.Gen

/-- A number spread over all sampling points. -/
def splat (w : BitVec 32) : FVec Ideal S4x9216 .f32 := broadcastInDim S4x9216 ![] bcast_S_S4x9216 (constant S_ .f32 w)

/-- An integer spread over all sampling points. -/
def splatI (w : BitVec 32) : Vec Ideal S4x9216 .i32 := broadcastInDim S4x9216 ![] bcast_S_S4x9216 (constantI S_ 32 w)

/-- The greatest raw weight among a position's nine points, per group. -/
def topWeight (x : FVec Ideal S4x1024x9x8 .f32) : FVec Ideal S4x1024x9x8 .f32 :=
  broadcastInDim S4x1024x9x8 ![0, 1, 2, 3] bcast_S4x1024x1x8_S4x1024x9x8_0_1_2_3
    (broadcastInDim S4x1024x1x8 ![0, 1, 3] bcast_S4x1024x8_S4x1024x1x8_0_1_3
      (maximumf (broadcastInDim S4x1024x8 ![] bcast_S_S4x1024x8 (constant S_ .f32 0xFF800000#32))
        (Host.reduce FloatOps.maximumf x (constant S_ .f32 0xFF800000#32) reducesTo_S4x1024x9x8_S4x1024x8_d2 h_S_)))

/-- The softmax of the raw weights over the nine points of a position, per group. -/
def softmax (x : FVec Ideal S4x1024x9x8 .f32) : FVec Ideal S4x1024x9x8 .f32 :=
  Host.divf (Host.exp (subf x (topWeight x)))
    (broadcastInDim S4x1024x9x8 ![0, 1, 2, 3] bcast_S4x1024x1x8_S4x1024x9x8_0_1_2_3
      (broadcastInDim S4x1024x1x8 ![0, 1, 3] bcast_S4x1024x8_S4x1024x1x8_0_1_3
        (Host.reduceAdd (Host.exp (subf x (topWeight x))) (constant S_ .f32 0x00000000#32) reducesTo_S4x1024x9x8_S4x1024x8_d2 h_S_)))

/-- The sampling points: each position's anchor point plus its nine offsets. -/
def points (a : FVec Ideal S4x1024x2 .f32) (off : FVec Ideal S4x1024x9x2 .f32) : FVec Ideal S4x9216x2 .f32 :=
  shapeCast S4x9216x2
    (addf (broadcastInDim S4x1024x9x2 ![0, 1, 2, 3] bcast_S4x1024x1x2_S4x1024x9x2_0_1_2_3
      (broadcastInDim S4x1024x1x2 ![0, 1, 3] bcast_S4x1024x2_S4x1024x1x2_0_1_3 a)) off)
    shapeCasts_S4x1024x9x2_S4x9216x2

/-- A normalized coordinate in pixels: `32 v - 1/2`. -/
def pixels (v : FVec Ideal S4x9216x1 .f32) : FVec Ideal S4x9216 .f32 :=
  subf (mulf (shapeCast S4x9216 v shapeCasts_S4x9216x1_S4x9216) (splat 0x42000000#32)) (splat 0x3F000000#32)

/-- The points' column, in pixels. -/
def column (p : FVec Ideal S4x9216x2 .f32) : FVec Ideal S4x9216 .f32 :=
  pixels (extractStridedSlice S4x9216x1 ![0, 0, 0] p slices_S4x9216x2_S4x9216x1_0_0_0)

/-- The points' row, in pixels. -/
def row (p : FVec Ideal S4x9216x2 .f32) : FVec Ideal S4x9216 .f32 :=
  pixels (extractStridedSlice S4x9216x1 ![0, 0, 1] p slices_S4x9216x2_S4x9216x1_0_0_1)

/-- The next pixel. -/
def next (v : FVec Ideal S4x9216 .f32) : FVec Ideal S4x9216 .f32 := addf v (splat 0x3F800000#32)

/-- The fraction of the way from a pixel to the next one: the next one's weight. -/
def weightNext (v : FVec Ideal S4x9216 .f32) : FVec Ideal S4x9216 .f32 := subf v (Host.floor v)

/-- The remaining weight: the pixel's own. -/
def weightHere (v : FVec Ideal S4x9216 .f32) : FVec Ideal S4x9216 .f32 := subf (splat 0x3F800000#32) (weightNext v)

/-- Which pixels lie on the map. -/
def inside (x y : FVec Ideal S4x9216 .f32) : Vec Ideal S4x9216 .i1 :=
  andi (andi (andi (cmpf .oge x (splat 0x00000000#32)) (cmpf .ole x (splat 0x41F80000#32)))
    (cmpf .oge y (splat 0x00000000#32))) (cmpf .ole y (splat 0x41F80000#32))

/-- A pixel coordinate clipped to the map, as an integer. -/
def clipped (v : FVec Ideal S4x9216 .f32) : Vec Ideal S4x9216 .i32 :=
  fptosi 32 (minimumf (broadcastInDim S4x9216 ![] bcast_S_S4x9216 (sitofp (F := Ideal) .f32 (constantI S_ 32 31#32)))
    (maximumf (broadcastInDim S4x9216 ![] bcast_S_S4x9216 (sitofp (F := Ideal) .f32 (constantI S_ 32 0#32))) v))

/-- The pixel's place in the map laid out as one row of 1024. -/
def place (x y : FVec Ideal S4x9216 .f32) : Vec Ideal S4x1x9216 .i32 :=
  broadcastInDim S4x1x9216 ![0, 2] bcast_S4x9216_S4x1x9216_0_2 (addi (muli (clipped y) (splatI 32#32)) (clipped x))

/-- A place counted from the end where it is negative, as one column. -/
def wrapped (i : Vec Ideal S4x1x9216 .i32) : Vec Ideal S4x9216x1 .i32 :=
  shapeCast S4x9216x1
    (select (cmpi .slt i (broadcastInDim S4x1x9216 ![] bcast_S_S4x1x9216 (constantI S_ 32 0#32)))
      (addi i (broadcastInDim S4x1x9216 ![] bcast_S_S4x1x9216 (constantI S_ 32 1024#32))) i)
    shapeCasts_S4x1x9216_S4x9216x1

/-- Which places name an entry of the row. -/
def named (i : Vec Ideal S4x9216x1 .i32) : Vec Ideal S4x9216 .i1 :=
  Host.reduce IntOp.andi
    (andi (cmpi .sge i (broadcastInDim S4x9216x1 ![] bcast_S_S4x9216x1 (constantI S_ 32 0#32)))
      (cmpi .sle i (broadcastInDim S4x9216x1 ![0, 1, 2] bcast_S1x1x1_S4x9216x1_0_1_2
        (broadcastInDim S1x1x1 ![2] bcast_S1_S1x1x1_2 (constantI S1 32 1023#32)))))
    (constantI S_ 1 1#1) reducesTo_S4x9216x1_S4x9216_d2 h_S_

/-- Every channel's entries at the given places. -/
def taken (f : FVec Ideal S4x384x1024 .f32) (i : Vec Ideal S4x1x9216 .i32) : FVec Ideal S4x384x9216 .f32 :=
  select (broadcastInDim S4x384x9216 ![0, 2] bcast_S4x9216_S4x384x9216_0_2 (named (wrapped i)))
    (Host.gather gather_S4x384x1024_S4x9216x1_S4x384x9216_1_2_0_0_2_2_13841 f (wrapped i))
    (broadcastInDim S4x384x9216 ![] bcast_S_S4x384x9216 (constant S_ .f32 0x7FC00000#32))

/-- A number per point spread over the channels. -/
def perChannel (v : FVec Ideal S4x1x9216 .f32) : FVec Ideal S4x384x9216 .f32 :=
  broadcastInDim S4x384x9216 ![0, 1, 2] bcast_S4x1x9216_S4x384x9216_0_1_2 v

/-- One corner's share of the samples: the entry at the pixel, nothing outside the map, times the weights. -/
def corner (f : FVec Ideal S4x384x1024 .f32) (x y wx wy : FVec Ideal S4x9216 .f32) : FVec Ideal S4x384x9216 .f32 :=
  mulf
    (mulf (taken f (place x y))
      (perChannel (uitofp .f32 (broadcastInDim S4x1x9216 ![0, 2] bcast_S4x9216_S4x1x9216_0_2 (inside x y)))))
    (perChannel (broadcastInDim S4x1x9216 ![0, 2] bcast_S4x9216_S4x1x9216_0_2 (mulf wx wy)))

/-- The four corners' shares summed: the pixels' left and right columns, their top and bottom rows, and the weights of
    each. -/
def corners (f : FVec Ideal S4x384x1024 .f32) (x₀ x₁ y₀ y₁ wx₀ wx₁ wy₀ wy₁ : FVec Ideal S4x9216 .f32) : FVec Ideal S4x384x9216 .f32 :=
  addf (addf (addf (corner f x₀ y₀ wx₀ wy₀) (corner f x₁ y₀ wx₁ wy₀)) (corner f x₀ y₁ wx₀ wy₁)) (corner f x₁ y₁ wx₁ wy₁)

/-- Bilinear sampling of the map at the points `(x, y)`, in pixels. -/
def bilinear (f : FVec Ideal S4x384x1024 .f32) (x y : FVec Ideal S4x9216 .f32) : FVec Ideal S4x384x9216 .f32 :=
  corners f (Host.floor x) (next (Host.floor x)) (Host.floor y) (next (Host.floor y)) (weightHere x) (weightNext x)
    (weightHere y) (weightNext y)

/-- The samples with a point's channels together, in eight groups of 48. -/
def grouped (s : FVec Ideal S4x384x9216 .f32) : FVec Ideal S4x9216x8x48 .f32 :=
  shapeCast S4x9216x8x48 (transpose S4x9216x384 [0, 2, 1] s transposes_S4x384x9216_S4x9216x384_0_2_1)
    shapeCasts_S4x9216x384_S4x9216x8x48

/-- A weight per point and group spread over the group's channels. -/
def perGroup (w : FVec Ideal S4x1024x9x8 .f32) : FVec Ideal S4x9216x8x48 .f32 :=
  broadcastInDim S4x9216x8x48 ![0, 1, 2, 3] bcast_S4x9216x8x1_S4x9216x8x48_0_1_2_3
    (shapeCast S4x9216x8x1 w shapeCasts_S4x1024x9x8_S4x9216x8x1)

/-- The sum over the nine points of a position. -/
def overPoints (p : FVec Ideal S4x9216x8x48 .f32) : FVec Ideal S4x1024x384 .f32 :=
  Host.reduceAdd (shapeCast S4x1024x9x384 p shapeCasts_S4x9216x8x48_S4x1024x9x384)
    (constant S_ .f32 0x00000000#32) reducesTo_S4x1024x9x384_S4x1024x384_d2 h_S_

/-- Each sample times its group's weight, summed over the nine points of a position. -/
def weighted (s : FVec Ideal S4x384x9216 .f32) (w : FVec Ideal S4x1024x9x8 .f32) : FVec Ideal S4x1024x384 .f32 :=
  overPoints (mulf (grouped s) (perGroup w))

/-- The deformable aggregation: from the value map `f`, the anchors, the offsets and the raw weights, each position's
    channels. -/
def aggregate (f : FVec Ideal S4x384x1024 .f32) (a : FVec Ideal S4x1024x2 .f32) (off : FVec Ideal S4x1024x9x2 .f32)
    (w : FVec Ideal S4x1024x9x8 .f32) : FVec Ideal S4x1024x384 .f32 :=
  weighted (bilinear f (column (points a off)) (row (points a off))) (softmax w)

end Cert.Sampling

end
-- ==== Proof.KernelFirst.lean ====
/-
  The host operations between the two channel products of `KernelIdeal`, first part: the value map, the softmax, and the
  four pixels around each sampling point with their weights, read back through the named steps of Stages.lean.
-/
module

public import proofs.«01_k».proof.Proof.Stages
public import proofs.«01_k».proof.Proof.Gen.KernelIdeal.Launch
public import Idealize.ShloMosaic.Lib.StableHlo.RunRead
public import Idealize.ShloMosaic.Lib.Pipeline.Frame

@[expose] public section

noncomputable section

namespace Cert.Sampling

open Cert.KernelIdeal Cert.KernelIdeal.Gen
open Idealize.ShloMosaic Idealize.ShloMosaic.TcCoe Idealize.ShloMosaic.StableHlo Idealize.SL.Sem

/-- The softmax's argument: the raw weights of `KernelIdeal`, from the rows of the features. -/
def kernelRaw (x : FVec Ideal S4096x384 .f32) (w : FVec Ideal S72x384 .f32) (b : FVec Ideal S72 .f32) : FVec Ideal S4x1024x9x8 .f32 :=
  shapeCast S4x1024x9x8
    (addf (Host.dotGeneral dot_S4096x384_S384x72_S4096x72_1_0_0_1_n_n none x (transpose S384x72 [1, 0] w transposes_S72x384_S384x72_1_0))
      (broadcastInDim S4096x72 ![0, 1] bcast_S1x72_S4096x72_0_1 (broadcastInDim S1x72 ![1] bcast_S72_S1x72_1 b)))
    shapeCasts_S4096x72_S4x1024x9x8

/-- The offsets of `KernelIdeal`, from the rows of the features. -/
def kernelOffsets (x : FVec Ideal S4096x384 .f32) (w : FVec Ideal S18x384 .f32) (b : FVec Ideal S18 .f32) : FVec Ideal S4x1024x9x2 .f32 :=
  shapeCast S4x1024x9x2
    (addf (Host.dotGeneral dot_S4096x384_S384x18_S4096x18_1_0_0_1_n_n none x (transpose S384x18 [1, 0] w transposes_S18x384_S384x18_1_0))
      (broadcastInDim S4096x18 ![0, 1] bcast_S1x18_S4096x18_0_1 (broadcastInDim S1x18 ![1] bcast_S18_S1x18_1 b)))
    shapeCasts_S4096x18_S4x1024x9x2

/-- The value map laid out channel by channel, from the rows the first channel product leaves. -/
def kernelMap (y : FVec Ideal S4096x384 .f32) : FVec Ideal S4x384x1024 .f32 :=
  shapeCast S4x384x1024 (shapeCast S4x384x32x32
    (transpose S4x384x1024 [0, 2, 1] (shapeCast S4x1024x384 y shapeCasts_S4096x384_S4x1024x384)
      transposes_S4x1024x384_S4x384x1024_0_2_1) shapeCasts_S4x384x1024_S4x384x32x32) shapeCasts_S4x384x32x32_S4x384x1024

/-- The host operations between the two channel products, up to the value map. -/
abbrev firstOps : List (HloOp τ sig (Elt Ideal)) := hostOps1.take 66

/-- The host operations from the value map to the second channel product. -/
abbrev lastOps : List (HloOp τ sig (Elt Ideal)) := hostOps1.drop 66

set_option maxRecDepth 8192 in
set_option maxHeartbeats 8000000 in
/-- The value map as the first part leaves it. -/
theorem firstOps_map (V : Valuation τ sig (Elt Ideal)) :
    after firstOps V (Proc.devRef .tc main_call0_v60) = kernelMap (V (Proc.devRef .tc main_call0_v5)) := by
  after_reads_simp
  simp only [TRef.nullary, TRef.ternary, TRef.unary, TRef.binary, TRef.reshape, TRef.toBuf, TRef.ofBuf, cast_eq]
  rfl

/-- The key points of `KernelIdeal`. -/
abbrev kernelPoints (V : Valuation τ sig (Elt Ideal)) : FVec Ideal S4x9216x2 .f32 :=
  points (V (Proc.devRef .tc main_arg1)) (kernelOffsets (V (Proc.devRef .tc main_call0_v2)) (V (Proc.devRef .tc main_arg6)) (V (Proc.devRef .tc main_arg7)))

set_option maxRecDepth 8192 in
set_option maxHeartbeats 8000000 in
/-- The softmax as the first part leaves it. -/
theorem firstOps_softmax (V : Valuation τ sig (Elt Ideal)) :
    after firstOps V (Proc.devRef .tc main_call0_v27) = softmax (kernelRaw (V (Proc.devRef .tc main_call0_v2)) (V (Proc.devRef .tc main_arg4)) (V (Proc.devRef .tc main_arg5))) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The column to the left of each key point. -/
theorem firstOps_left (V : Valuation τ sig (Elt Ideal)) :
    after firstOps V (Proc.devRef .tc main_call0_v48) = Host.floor (column (kernelPoints V)) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The row above each key point. -/
theorem firstOps_top (V : Valuation τ sig (Elt Ideal)) :
    after firstOps V (Proc.devRef .tc main_call0_v49) = Host.floor (row (kernelPoints V)) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The column to the right of each key point. -/
theorem firstOps_right (V : Valuation τ sig (Elt Ideal)) :
    after firstOps V (Proc.devRef .tc main_call0_v51) = next (Host.floor (column (kernelPoints V))) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The row below each key point. -/
theorem firstOps_bottom (V : Valuation τ sig (Elt Ideal)) :
    after firstOps V (Proc.devRef .tc main_call0_v53) = next (Host.floor (row (kernelPoints V))) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The weight of the column to the right. -/
theorem firstOps_weightRight (V : Valuation τ sig (Elt Ideal)) :
    after firstOps V (Proc.devRef .tc main_call0_v54) = weightNext (column (kernelPoints V)) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The weight of the column to the left. -/
theorem firstOps_weightLeft (V : Valuation τ sig (Elt Ideal)) :
    after firstOps V (Proc.devRef .tc main_call0_v56) = weightHere (column (kernelPoints V)) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The weight of the row below. -/
theorem firstOps_weightBottom (V : Valuation τ sig (Elt Ideal)) :
    after firstOps V (Proc.devRef .tc main_call0_v57) = weightNext (row (kernelPoints V)) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The weight of the row above. -/
theorem firstOps_weightTop (V : Valuation τ sig (Elt Ideal)) :
    after firstOps V (Proc.devRef .tc main_call0_v59) = weightHere (row (kernelPoints V)) := by
  after_reads_simp
  simp only [TRef.nullary, TRef.ternary, TRef.unary, TRef.binary, TRef.reshape, TRef.toBuf, TRef.ofBuf, cast_eq]
  rfl

end Cert.Sampling

end
-- ==== Proof.KernelLast.lean ====
/-
  The host operations between the two channel products of `KernelIdeal`, second part: the four corners' shares and the
  weighted sums, read back through the named steps of Stages.lean.
-/
module

public import proofs.«01_k».proof.Proof.KernelFirst

@[expose] public section

noncomputable section

namespace Cert.Sampling

open Cert.KernelIdeal Cert.KernelIdeal.Gen
open Idealize.ShloMosaic Idealize.ShloMosaic.TcCoe Idealize.ShloMosaic.StableHlo Idealize.SL.Sem

set_option maxRecDepth 8192 in
set_option maxHeartbeats 8000000 in
/-- The first corner's share, as the second corner's sum reads it. -/
theorem lastOps_one (V : Valuation τ sig (Elt Ideal)) :
    upto lastOps V 138 (no_index (Proc.devRef .tc main_call0_v88)) =
     (corner (V (Proc.devRef .tc main_call0_v60)) (V (Proc.devRef .tc main_call0_v48)) (V (Proc.devRef .tc main_call0_v49))
      (V (Proc.devRef .tc main_call0_v56)) (V (Proc.devRef .tc main_call0_v59))) := by
  after_reads_simp
  simp only [TRef.nullary, TRef.ternary, TRef.unary, TRef.binary, TRef.reshape, TRef.toBuf, TRef.ofBuf, cast_eq]
  rfl

set_option maxRecDepth 8192 in
set_option maxHeartbeats 8000000 in
/-- The first two corners' shares, as the third corner's sum reads them. -/
theorem lastOps_two (V : Valuation τ sig (Elt Ideal)) :
    upto lastOps V 208 (no_index (Proc.devRef .tc main_call0_v117)) =
     addf (corner (V (Proc.devRef .tc main_call0_v60)) (V (Proc.devRef .tc main_call0_v48)) (V (Proc.devRef .tc main_call0_v49))
      (V (Proc.devRef .tc main_call0_v56)) (V (Proc.devRef .tc main_call0_v59)))
     (corner (V (Proc.devRef .tc main_call0_v60)) (V (Proc.devRef .tc main_call0_v51)) (V (Proc.devRef .tc main_call0_v49))
      (V (Proc.devRef .tc main_call0_v54)) (V (Proc.devRef .tc main_call0_v59))) := by
  after_reads_simp [lastOps_one]
  simp only [TRef.nullary, TRef.ternary, TRef.unary, TRef.binary, TRef.reshape, TRef.toBuf, TRef.ofBuf, cast_eq]
  rfl

set_option maxRecDepth 8192 in
set_option maxHeartbeats 8000000 in
/-- The first three corners' shares, as the last corner's sum reads them. -/
theorem lastOps_three (V : Valuation τ sig (Elt Ideal)) :
    upto lastOps V 278 (no_index (Proc.devRef .tc main_call0_v146)) =
     addf (addf (corner (V (Proc.devRef .tc main_call0_v60)) (V (Proc.devRef .tc main_call0_v48)) (V (Proc.devRef .tc main_call0_v49))
      (V (Proc.devRef .tc main_call0_v56)) (V (Proc.devRef .tc main_call0_v59)))
     (corner (V (Proc.devRef .tc main_call0_v60)) (V (Proc.devRef .tc main_call0_v51)) (V (Proc.devRef .tc main_call0_v49))
      (V (Proc.devRef .tc main_call0_v54)) (V (Proc.devRef .tc main_call0_v59))))
     (corner (V (Proc.devRef .tc main_call0_v60)) (V (Proc.devRef .tc main_call0_v48)) (V (Proc.devRef .tc main_call0_v53))
      (V (Proc.devRef .tc main_call0_v56)) (V (Proc.devRef .tc main_call0_v57))) := by
  after_reads_simp [lastOps_two]
  simp only [TRef.nullary, TRef.ternary, TRef.unary, TRef.binary, TRef.reshape, TRef.toBuf, TRef.ofBuf, cast_eq]
  rfl

set_option maxRecDepth 8192 in
set_option maxHeartbeats 8000000 in
/-- The samples, all four corners' shares. -/
theorem lastOps_four (V : Valuation τ sig (Elt Ideal)) :
    upto lastOps V 279 (no_index (Proc.devRef .tc main_call0_v175)) =
     corners (V (Proc.devRef .tc main_call0_v60)) (V (Proc.devRef .tc main_call0_v48)) (V (Proc.devRef .tc main_call0_v51)) (V (Proc.devRef .tc main_call0_v49))
      (V (Proc.devRef .tc main_call0_v53)) (V (Proc.devRef .tc main_call0_v56)) (V (Proc.devRef .tc main_call0_v54)) (V (Proc.devRef .tc main_call0_v59))
      (V (Proc.devRef .tc main_call0_v57)) := by
  after_reads_simp [lastOps_three]
  simp only [TRef.nullary, TRef.ternary, TRef.unary, TRef.binary, TRef.reshape, TRef.toBuf, TRef.ofBuf, cast_eq]
  rfl

/-- The samples. -/
abbrev kernelSamples (V : Valuation τ sig (Elt Ideal)) : FVec Ideal S4x384x9216 .f32 :=
  corners (V (Proc.devRef .tc main_call0_v60)) (V (Proc.devRef .tc main_call0_v48)) (V (Proc.devRef .tc main_call0_v51)) (V (Proc.devRef .tc main_call0_v49))
      (V (Proc.devRef .tc main_call0_v53)) (V (Proc.devRef .tc main_call0_v56)) (V (Proc.devRef .tc main_call0_v54)) (V (Proc.devRef .tc main_call0_v59))
      (V (Proc.devRef .tc main_call0_v57))

end Cert.Sampling

end
-- ==== Proof.KernelSums.lean ====
/-
  The host operations between the two channel products of `KernelIdeal`, last part: the samples' weighted sums.
-/
module

public import proofs.«01_k».proof.Proof.KernelLast

@[expose] public section

noncomputable section

namespace Cert.Sampling

open Cert.KernelIdeal Cert.KernelIdeal.Gen
open Idealize.ShloMosaic Idealize.ShloMosaic.TcCoe Idealize.ShloMosaic.StableHlo Idealize.SL.Sem

set_option maxRecDepth 8192 in
set_option maxHeartbeats 8000000 in
/-- The samples with a point's channels together. -/
theorem lastOps_grouped (V : Valuation τ sig (Elt Ideal)) (z : FVec Ideal S4x384x9216 .f32) (hz : upto lastOps V 279 (no_index (Proc.devRef .tc main_call0_v175)) = z) :
    upto lastOps V 283 (no_index (Proc.devRef .tc main_call0_v177)) = grouped z := by
  after_reads_simp [hz]
  simp only [TRef.nullary, TRef.ternary, TRef.unary, TRef.binary, TRef.reshape, TRef.toBuf, TRef.ofBuf, cast_eq]
  rfl

set_option maxRecDepth 8192 in
set_option maxHeartbeats 8000000 in
/-- The weights spread over the channels. -/
theorem lastOps_perGroup (V : Valuation τ sig (Elt Ideal)) : upto lastOps V 283 (no_index (Proc.devRef .tc main_call0_v179)) = perGroup (V (Proc.devRef .tc main_call0_v27)) := by
  after_reads_simp
  simp only [TRef.nullary, TRef.ternary, TRef.unary, TRef.binary, TRef.reshape, TRef.toBuf, TRef.ofBuf, cast_eq]
  rfl

set_option maxRecDepth 8192 in
set_option maxHeartbeats 8000000 in
/-- Each sample times its weight. -/
theorem lastOps_product (V : Valuation τ sig (Elt Ideal)) (p q : FVec Ideal S4x9216x8x48 .f32)
    (hp : upto lastOps V 283 (no_index (Proc.devRef .tc main_call0_v177)) = p) (hq : upto lastOps V 283 (no_index (Proc.devRef .tc main_call0_v179)) = q) :
    upto lastOps V 284 (no_index (Proc.devRef .tc main_call0_v180)) = (mulf p q : FVec Ideal S4x9216x8x48 .f32) := by
  after_reads_simp [hp, hq]
  simp only [TRef.nullary, TRef.ternary, TRef.unary, TRef.binary, TRef.reshape, TRef.toBuf, TRef.ofBuf, cast_eq]

set_option maxRecDepth 8192 in
set_option maxHeartbeats 8000000 in
/-- The weighted samples, position by position. -/
theorem lastOps_regrouped (V : Valuation τ sig (Elt Ideal)) (p : FVec Ideal S4x9216x8x48 .f32) (hp : upto lastOps V 284 (no_index (Proc.devRef .tc main_call0_v180)) = p) :
    upto lastOps V 286 (no_index (Proc.devRef .tc main_call0_v181)) =
      (shapeCast S4x1024x9x384 p shapeCasts_S4x9216x8x48_S4x1024x9x384 : FVec Ideal S4x1024x9x384 .f32) := by
  after_reads_simp [hp]
  rfl

set_option maxRecDepth 8192 in
set_option maxHeartbeats 8000000 in
/-- The sums over the points of a position. -/
theorem lastOps_sums (V : Valuation τ sig (Elt Ideal)) (p : FVec Ideal S4x1024x9x384 .f32) (hp : upto lastOps V 286 (no_index (Proc.devRef .tc main_call0_v181)) = p) :
    upto lastOps V 287 (no_index (Proc.devRef .tc main_call0_v182)) =
      (Host.reduceAdd p (constant S_ .f32 0x00000000#32) reducesTo_S4x1024x9x384_S4x1024x384_d2 h_S_ : FVec Ideal S4x1024x384 .f32) := by
  after_reads_simp [hp]
  simp only [TRef.nullary, TRef.ternary, TRef.unary, TRef.binary, TRef.reshape, TRef.toBuf, TRef.ofBuf, cast_eq]

set_option maxRecDepth 8192 in
set_option maxHeartbeats 8000000 in
/-- The second channel product's rows. -/
theorem lastOps_last (V : Valuation τ sig (Elt Ideal)) (t : FVec Ideal S4x1024x384 .f32) (ht : upto lastOps V 287 (no_index (Proc.devRef .tc main_call0_v182)) = t) :
    after lastOps V (Proc.devRef .tc main_call0_v183) = shapeCast S4096x384 t shapeCasts_S4x1024x384_S4096x384 := by
  after_reads_simp [ht]
  rfl

/-- The second channel product's rows: the samples' weighted sums. -/
theorem lastOps_rows (V : Valuation τ sig (Elt Ideal)) :
    after lastOps V (Proc.devRef .tc main_call0_v183) =
      shapeCast S4096x384 (weighted (kernelSamples V) (V (Proc.devRef .tc main_call0_v27))) shapeCasts_S4x1024x384_S4096x384 :=
  lastOps_last V _ (lastOps_sums V _ (lastOps_regrouped V _ (lastOps_product V _ _ (lastOps_grouped V _ (lastOps_four V)) (lastOps_perGroup V))))

end Cert.Sampling

end
-- ==== Proof.KernelHost.lean ====
/-
  What the host operations of `KernelIdeal` around its two channel products compute, through the named steps of
  Stages.lean.
-/
module

public import proofs.«01_k».proof.Proof.KernelSums

@[expose] public section

noncomputable section

namespace Cert.Sampling

open Cert.KernelIdeal Cert.KernelIdeal.Gen
open Idealize.ShloMosaic Idealize.ShloMosaic.TcCoe Idealize.ShloMosaic.StableHlo Idealize.SL.Sem

/-- The operations between the two channel products, part after part. -/
theorem after_hostOps1 (V : Valuation τ sig (Elt Ideal)) : after hostOps1 V = after lastOps (after firstOps V) :=
  (congrArg (fun l => after l V) (List.take_append_drop 66 hostOps1).symm).trans (after_append _ _ _)

/-- The host operations between the two channel products: the second product's rows are the aggregation of the first
    one's. -/
theorem hostOps1_rows (V : Valuation τ sig (Elt Ideal)) :
    after hostOps1 V (Proc.devRef .tc main_call0_v183) =
      shapeCast S4096x384
        (aggregate (kernelMap (V (Proc.devRef .tc main_call0_v5))) (V (Proc.devRef .tc main_arg1))
          (kernelOffsets (V (Proc.devRef .tc main_call0_v2)) (V (Proc.devRef .tc main_arg6)) (V (Proc.devRef .tc main_arg7)))
          (kernelRaw (V (Proc.devRef .tc main_call0_v2)) (V (Proc.devRef .tc main_arg4)) (V (Proc.devRef .tc main_arg5))))
        shapeCasts_S4x1024x384_S4096x384 := by
  refine (congrFun (after_hostOps1 V) _).trans ((lastOps_rows _).trans ?_)
  unfold kernelSamples
  rw [firstOps_map, firstOps_softmax, firstOps_left, firstOps_top, firstOps_right, firstOps_bottom, firstOps_weightRight,
    firstOps_weightLeft, firstOps_weightBottom, firstOps_weightTop]
  rfl

set_option maxRecDepth 8192 in
set_option maxHeartbeats 8000000 in
/-- The second channel product's weights: the output weights transposed. -/
theorem hostOps1_weights (V : Valuation τ sig (Elt Ideal)) :
    after hostOps1 V (Proc.devRef .tc main_call0_v184) =
      transpose S384x384 [1, 0] (V (Proc.devRef .tc main_arg8)) transposes_S384x384_S384x384_1_0 := by
  after_reads_simp
  simp only [TRef.nullary, TRef.ternary, TRef.unary, TRef.binary, TRef.reshape, TRef.toBuf, TRef.ofBuf, cast_eq]

set_option maxRecDepth 8192 in
set_option maxHeartbeats 8000000 in
/-- The second channel product's bias. -/
theorem hostOps1_bias (V : Valuation τ sig (Elt Ideal)) :
    after hostOps1 V (Proc.devRef .tc main_call0_v185) =
      shapeCast S1x384 (V (Proc.devRef .tc main_arg9)) shapeCasts_S384_S1x384 := by
  after_reads_simp
  rfl

/-- The first channel product's rows: the features, one row per position. -/
theorem hostOps0_rows (V : Valuation τ sig (Elt Ideal)) :
    after hostOps0 V (Proc.devRef .tc main_call0_v2) =
      shapeCast S4096x384 (transpose S4x1024x384 [0, 2, 1] (shapeCast S4x384x1024 (V (Proc.devRef .tc main_arg0)) shapeCasts_S4x384x32x32_S4x384x1024)
        transposes_S4x384x1024_S4x1024x384_0_2_1) shapeCasts_S4x1024x384_S4096x384 := by
  after_reads_simp
  rfl

/-- The first channel product's weights: the value weights transposed. -/
theorem hostOps0_weights (V : Valuation τ sig (Elt Ideal)) :
    after hostOps0 V (Proc.devRef .tc main_call0_v3) =
      transpose S384x384 [1, 0] (V (Proc.devRef .tc main_arg2)) transposes_S384x384_S384x384_1_0 := by
  after_reads_simp
  simp only [TRef.nullary, TRef.ternary, TRef.unary, TRef.binary, TRef.reshape, TRef.toBuf, TRef.ofBuf, cast_eq]

/-- The first channel product's bias. -/
theorem hostOps0_bias (V : Valuation τ sig (Elt Ideal)) :
    after hostOps0 V (Proc.devRef .tc main_call0_v4) =
      shapeCast S1x384 (V (Proc.devRef .tc main_arg3)) shapeCasts_S384_S1x384 := by
  after_reads_simp
  rfl

/-- The result, from the rows the second channel product leaves. -/
theorem hostOps2_result (V : Valuation τ sig (Elt Ideal)) :
    after hostOps2 V (Proc.devRef .tc main_v0) =
      shapeCast S4x384x32x32 (transpose S4x384x1024 [0, 2, 1] (shapeCast S4x1024x384 (V (Proc.devRef .tc main_call0_v186)) shapeCasts_S4096x384_S4x1024x384)
        transposes_S4x1024x384_S4x384x1024_0_2_1) shapeCasts_S4x384x1024_S4x384x32x32 := by
  after_reads_simp
  rfl

end Cert.Sampling

end
-- ==== Proof.ReferenceHost.lean ====
/-
  The result of `ReferenceIdeal` through the named steps of Stages.lean: its three channel products, the deformable
  aggregation between them, and the run with that result.
-/
module

public import proofs.«01_k».proof.Proof.Stages
public import proofs.«01_k».proof.Proof.Gen.ReferenceIdeal.Run
public import Idealize.ShloMosaic.Lib.Quiescent

@[expose] public section

noncomputable section

namespace Cert.Sampling

open Cert.ReferenceIdeal Cert.ReferenceIdeal.Gen Cert.ReferenceIdeal.Value
open Idealize.ShloMosaic Idealize.ShloMosaic.TcCoe Idealize.ShloMosaic.StableHlo Idealize.SL.Sem

/-- The value map of `ReferenceIdeal`: a 1×1 convolution, each channel's map as one row. -/
def referenceMap (x : FVec Ideal S4x384x32x32 .f32) (w : FVec Ideal S384x384 .f32) (b : FVec Ideal S384 .f32) : FVec Ideal S4x384x1024 .f32 :=
  shapeCast S4x384x1024
    (addf (transpose S4x384x32x32 [1, 0, 2, 3] (Host.dotGeneral dot_S384x384_S4x384x32x32_S384x4x32x32_1_1_0_023_n_n none w x)
      transposes_S384x4x32x32_S4x384x32x32_1_0_2_3)
      (broadcastInDim S4x384x32x32 ![0, 1, 2, 3] bcast_S1x384x1x1_S4x384x32x32_0_1_2_3 (broadcastInDim S1x384x1x1 ![1] bcast_S384_S1x384x1x1_1 b)))
    shapeCasts_S4x384x32x32_S4x384x1024

/-- The softmax's argument: the raw weights of `ReferenceIdeal`. -/
def referenceRaw (x : FVec Ideal S4x384x32x32 .f32) (w : FVec Ideal S72x384 .f32) (b : FVec Ideal S72 .f32) : FVec Ideal S4x1024x9x8 .f32 :=
  shapeCast S4x1024x9x8
    (transpose S4x32x32x72 [0, 2, 3, 1]
      (addf (transpose S4x72x32x32 [1, 0, 2, 3] (Host.dotGeneral dot_S72x384_S4x384x32x32_S72x4x32x32_1_1_0_023_n_n none w x)
        transposes_S72x4x32x32_S4x72x32x32_1_0_2_3)
        (broadcastInDim S4x72x32x32 ![0, 1, 2, 3] bcast_S1x72x1x1_S4x72x32x32_0_1_2_3 (broadcastInDim S1x72x1x1 ![1] bcast_S72_S1x72x1x1_1 b)))
      transposes_S4x72x32x32_S4x32x32x72_0_2_3_1)
    shapeCasts_S4x32x32x72_S4x1024x9x8

/-- The offsets of `ReferenceIdeal`. -/
def referenceOffsets (x : FVec Ideal S4x384x32x32 .f32) (w : FVec Ideal S18x384 .f32) (b : FVec Ideal S18 .f32) : FVec Ideal S4x1024x9x2 .f32 :=
  shapeCast S4x1024x9x2
    (transpose S4x32x32x18 [0, 2, 3, 1]
      (addf (transpose S4x18x32x32 [1, 0, 2, 3] (Host.dotGeneral dot_S18x384_S4x384x32x32_S18x4x32x32_1_1_0_023_n_n none w x)
        transposes_S18x4x32x32_S4x18x32x32_1_0_2_3)
        (broadcastInDim S4x18x32x32 ![0, 1, 2, 3] bcast_S1x18x1x1_S4x18x32x32_0_1_2_3 (broadcastInDim S1x18x1x1 ![1] bcast_S18_S1x18x1x1_1 b)))
      transposes_S4x18x32x32_S4x32x32x18_0_2_3_1)
    shapeCasts_S4x32x32x18_S4x1024x9x2

/-- The result of `ReferenceIdeal` from the aggregated channels: a last 1×1 convolution. -/
def referenceOut (g : FVec Ideal S4x1024x384 .f32) (w : FVec Ideal S384x384 .f32) (b : FVec Ideal S384 .f32) : FVec Ideal S4x384x32x32 .f32 :=
  addf (transpose S4x384x32x32 [1, 0, 2, 3]
    (Host.dotGeneral dot_S384x384_S4x384x32x32_S384x4x32x32_1_1_0_023_n_n none w
      (transpose S4x384x32x32 [0, 3, 1, 2] (shapeCast S4x32x32x384 g shapeCasts_S4x1024x384_S4x32x32x384)
        transposes_S4x32x32x384_S4x384x32x32_0_3_1_2))
    transposes_S384x4x32x32_S4x384x32x32_1_0_2_3)
    (broadcastInDim S4x384x32x32 ![0, 1, 2, 3] bcast_S1x384x1x1_S4x384x32x32_0_1_2_3 (broadcastInDim S1x384x1x1 ![1] bcast_S384_S1x384x1x1_1 b))

variable (V : Valuation τ sig (Elt Ideal))

/-- The key points of `ReferenceIdeal`. -/
abbrev referencePoints : FVec Ideal S4x9216x2 .f32 :=
  points (V (Proc.devRef .tc main_arg1)) (referenceOffsets (V (Proc.devRef .tc main_arg0)) (V (Proc.devRef .tc main_arg6)) (V (Proc.devRef .tc main_arg7)))

/-- The value map, flat, is the first 1×1 convolution. -/
theorem res_map : res_main_v58 V = referenceMap (V (Proc.devRef .tc main_arg0)) (V (Proc.devRef .tc main_arg2)) (V (Proc.devRef .tc main_arg3)) := rfl

/-- The points' columns, in pixels. -/
theorem res_column : res_main_v39 V = column (referencePoints V) := rfl

/-- The points' rows, in pixels. -/
theorem res_row : res_main_v45 V = row (referencePoints V) := rfl

/-- The pixel column left of each point. -/
theorem res_left : res_main_v46 V = Host.floor (column (referencePoints V)) := rfl

/-- The pixel column right of each point. -/
theorem res_right : res_main_v49 V = next (Host.floor (column (referencePoints V))) := rfl

/-- The pixel row above each point. -/
theorem res_top : res_main_v47 V = Host.floor (row (referencePoints V)) := rfl

/-- The pixel row below each point. -/
theorem res_bottom : res_main_v51 V = next (Host.floor (row (referencePoints V))) := rfl

/-- The left, right, top and bottom pixels' weights. -/
theorem res_weights : res_main_v54 V = weightHere (column (referencePoints V)) ∧ res_main_v52 V = weightNext (column (referencePoints V))
    ∧ res_main_v57 V = weightHere (row (referencePoints V)) ∧ res_main_v55 V = weightNext (row (referencePoints V)) := ⟨rfl, rfl, rfl, rfl⟩

/-- The shares of all corners but the last, summed. -/
theorem res_three : res_main_v144 V =
    addf (addf (corner (res_main_v58 V) (res_main_v46 V) (res_main_v47 V) (res_main_v54 V) (res_main_v57 V))
      (corner (res_main_v58 V) (res_main_v49 V) (res_main_v47 V) (res_main_v52 V) (res_main_v57 V)))
      (corner (res_main_v58 V) (res_main_v46 V) (res_main_v51 V) (res_main_v54 V) (res_main_v55 V)) := rfl

/-- The last corner's places, none negative. -/
theorem res_wrapped : res_main_call11_v5 V = wrapped (place (res_main_v49 V) (res_main_v51 V)) := rfl

/-- The exponentials of the softmax. -/
theorem res_exp : res_main_v18 V = Host.exp (subf (res_main_v11 V) (topWeight (res_main_v11 V))) := rfl

/-- The softmax's argument is the third 1×1 convolution. -/
theorem res_raw : res_main_v11 V = referenceRaw (V (Proc.devRef .tc main_arg0)) (V (Proc.devRef .tc main_arg4)) (V (Proc.devRef .tc main_arg5)) := rfl

/-- The result's operations after the last values of their own names. -/
theorem after_ops_last : after ops V (Proc.devRef .tc main_v187) =
    referenceOut (weighted (addf (res_main_v144 V) (corner (res_main_v58 V) (res_main_v49 V) (res_main_v51 V) (res_main_v52 V) (res_main_v55 V)))
      (softmax (res_main_v11 V))) (V (Proc.devRef .tc main_arg8)) (V (Proc.devRef .tc main_arg9)) := by
  rw [after_ops, val4_main_v187, res_wrapped, res_exp]
  generalize res_main_v144 V = a, res_main_v58 V = f, res_main_v49 V = x, res_main_v51 V = y, res_main_v52 V = u, res_main_v55 V = v,
    res_main_v11 V = r, V (Proc.devRef .tc main_arg8) = w, V (Proc.devRef .tc main_arg9) = b
  rfl

/-- The result of `ReferenceIdeal` from its arguments. -/
def referenceResult (x : FVec Ideal S4x384x32x32 .f32) (a : FVec Ideal S4x1024x2 .f32) (wv : FVec Ideal S384x384 .f32) (bv : FVec Ideal S384 .f32)
    (wa : FVec Ideal S72x384 .f32) (ba : FVec Ideal S72 .f32) (wo : FVec Ideal S18x384 .f32) (bo : FVec Ideal S18 .f32)
    (wp : FVec Ideal S384x384 .f32) (bp : FVec Ideal S384 .f32) : FVec Ideal S4x384x32x32 .f32 :=
  referenceOut (aggregate (referenceMap x wv bv) a (referenceOffsets x wo bo) (referenceRaw x wa ba)) wp bp

/-- The program's result, from its arguments. -/
theorem after_ops_result : after ops V (Proc.devRef .tc main_v187) =
    referenceResult (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) := by
  obtain ⟨hx, hx', hy, hy'⟩ := res_weights V
  rw [after_ops_last, res_three, res_map, res_left, res_right, res_top, res_bottom, hx, hx', hy, hy', res_raw]
  rfl

/-- Every weakly fair execution of `ReferenceIdeal` terminates without a fault, its result at `referenceResult` of its
    arguments, the arguments as they were and every semaphore counter at zero. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v187) =
        referenceResult (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run defs _ _).mono
    (fun _ h => ⟨fun c => ⟨(h c).1.trans ((val4_main_v187 (launchContents m c)).symm.trans
      ((congrFun (after_ops (launchContents m c)) _).symm.trans (after_ops_result (launchContents m c)))), (h c).2⟩,
      sem_eq_zero_of_no_sems rfl _⟩)
    (Value.run m ρ)

end Cert.Sampling

end
-- ==== Proof.KernelRun.lean ====
/-
  The run of `KernelIdeal` with every buffer outside the kernels' own memories named: the launch of
  Gen/KernelIdeal/Frame.lean, its last state read back whole instead of at the arguments alone.
-/
module

public import proofs.«01_k».proof.Proof.Gen.KernelIdeal.Frame
public import Idealize.ShloMosaic.PureOps.Ideal

@[expose] public section

noncomputable section

namespace Cert.Sampling

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this one
set_option backward.isDefEq.respectTransparency.types false in
/-- Every weakly fair execution of `KernelIdeal` terminates without a fault, and at its end every buffer of a device
    that lives through the whole program holds what the last stretch of host operations leaves in it. -/
theorem kernel_run : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.Sampling

end
-- ==== Proof.RegionValue.lean ====
/-
  What the two channel products of `KernelIdeal` leave in memory: every row times the weights, plus the bias.
-/
module

public import proofs.«01_k».proof.Proof.KernelRun
public import Idealize.ShloMosaic.Lib.Pipeline.ValueKit
public import Idealize.ShloMosaic.PureOps.Ideal
public import Idealize.ShloMosaic.Lib.MatmulPlain

@[expose] public section

noncomputable section

namespace Cert.Sampling

open Cert.KernelIdeal Cert.KernelIdeal.Gen
open Idealize.ShloMosaic Idealize.ShloMosaic.TcCoe Idealize.SL.Sem

/-- Every row times the weights, plus the bias. -/
def rowsTimes (x : FVec Ideal S4096x384 .f32) (w : FVec Ideal S384x384 .f32) (b : FVec Ideal S1x384 .f32) : FVec Ideal S4096x384 .f32 :=
  fun i => (∑ k : Fin 384, x (ix2 (i 0) k) * w (ix2 k (i 1))) + b (ix2 (0 : Fin 1) (i 1))

variable (V : (c : Dev nD) → (b : Ref sig .tc) → Buf (Elt Ideal) ((c : Thread nD τ).loc b)) (c : Dev nD)

/-- Which blocks a point of the first product's grid takes. -/
theorem blocks0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Which blocks a point of the second product's grid takes. -/
theorem blocks1 : ∀ t : Fin cfg1.N, win1_0.index t = ![t.val, 0] ∧ win1_1.index t = ![0, 0] ∧ win1_2.index t = ![0, 0] ∧ win1_3.index t = ![t.val, 0] :=
  (by decide +kernel : ∀ t : Fin grid1.N, _)

/-- The first channel product's rows after the run. -/
theorem region0_rows : (dat0 V c).arrAt 3 cfg0.N = rowsTimes (V c main_call0_v2) (V c main_call0_v3) (V c main_call0_v4) := by
  refine (dat0 V c).arrAt_eq_of_covers 3 _ (by decide +kernel) fun t hf y => ?_
  blk_simp
  rw [after0_3]; frame_out
  pointwise [k0_pay1, rowsTimes]
  blk_point [iblk0, blocks0 t]

/-- The second channel product's rows after the run. -/
theorem region1_rows : (dat1 V c).arrAt 3 cfg1.N = rowsTimes (V c main_call0_v183) (V c main_call0_v184) (V c main_call0_v185) := by
  refine (dat1 V c).arrAt_eq_of_covers 3 _ (by decide +kernel) fun t hf y => ?_
  blk_simp
  rw [after1_3]; frame_out
  pointwise [k1_pay1, rowsTimes]
  blk_point [iblk1, blocks1 t]

end Cert.Sampling

end
-- ==== Proof.Products.lean ====
/-
  The channel products of the two programs are equal: rows times transposed weights, against a contraction of the
  weights with the whole map.
-/
module

public import proofs.«01_k».proof.Proof.KernelHost
public import proofs.«01_k».proof.Proof.ReferenceHost
public import proofs.«01_k».proof.Proof.RegionValue
public import Idealize.ShloMosaic.Lib.Pointwise

@[expose] public section

noncomputable section

namespace Cert.Sampling

open Cert.KernelIdeal Cert.KernelIdeal.Gen
open Idealize.ShloMosaic Idealize.ShloMosaic.TcCoe Idealize.SL.Sem

/-- The features, one row per position. -/
def positions (x : FVec Ideal S4x384x32x32 .f32) : FVec Ideal S4096x384 .f32 :=
  shapeCast S4096x384 (transpose S4x1024x384 [0, 2, 1] (shapeCast S4x384x1024 x shapeCasts_S4x384x32x32_S4x384x1024)
    transposes_S4x384x1024_S4x1024x384_0_2_1) shapeCasts_S4x1024x384_S4096x384

/-- The two programs' value maps. -/
theorem map_eq (x : FVec Ideal S4x384x32x32 .f32) (w : FVec Ideal S384x384 .f32) (b : FVec Ideal S384 .f32) :
    kernelMap (rowsTimes (positions x) (transpose S384x384 [1, 0] w transposes_S384x384_S384x384_1_0) (shapeCast S1x384 b shapeCasts_S384_S1x384)) =
      referenceMap x w b := by
  funext j
  pointwise [kernelMap, rowsTimes, positions, referenceMap]
  exact congrArg (· + _) (Finset.sum_congr rfl fun _ _ => mul_comm _ _)

/-- The two programs' raw weights. -/
theorem raw_eq (x : FVec Ideal S4x384x32x32 .f32) (w : FVec Ideal S72x384 .f32) (b : FVec Ideal S72 .f32) :
    kernelRaw (positions x) w b = referenceRaw x w b := by
  funext j
  pointwise [kernelRaw, positions, referenceRaw]
  exact congrArg (· + _) (Finset.sum_congr rfl fun _ _ => mul_comm _ _)

/-- The two programs' offsets. -/
theorem offsets_eq (x : FVec Ideal S4x384x32x32 .f32) (w : FVec Ideal S18x384 .f32) (b : FVec Ideal S18 .f32) :
    kernelOffsets (positions x) w b = referenceOffsets x w b := by
  funext j
  pointwise [kernelOffsets, positions, referenceOffsets]
  exact congrArg (· + _) (Finset.sum_congr rfl fun _ _ => mul_comm _ _)

/-- The two programs' last convolution. -/
theorem out_eq (g : FVec Ideal S4x1024x384 .f32) (w : FVec Ideal S384x384 .f32) (b : FVec Ideal S384 .f32) :
    shapeCast S4x384x32x32
        (transpose S4x384x1024 [0, 2, 1]
          (shapeCast S4x1024x384
            (rowsTimes (shapeCast S4096x384 g shapeCasts_S4x1024x384_S4096x384) (transpose S384x384 [1, 0] w transposes_S384x384_S384x384_1_0)
              (shapeCast S1x384 b shapeCasts_S384_S1x384)) shapeCasts_S4096x384_S4x1024x384)
          transposes_S4x1024x384_S4x384x1024_0_2_1)
        shapeCasts_S4x384x1024_S4x384x32x32 =
      referenceOut g w b := by
  funext j
  pointwise [rowsTimes, referenceOut]
  refine congrArg (· + _) (Finset.sum_congr rfl fun k _ => (mul_comm _ _).trans ?_)
  refine congrArg (fun p => w (ix2 (j 1) k) * g (ix3 (j 0) p k)) (Fin.ext ?_)
  idx_bounds j
  change ((j 0 : ℕ) * 1024 + ((j 2 : ℕ) * 32 + (j 3 : ℕ))) % 1024 = (j 2 : ℕ) * 32 + (j 3 : ℕ)
  omega

end Cert.Sampling

end
-- ==== Proof.KernelResult.lean ====
/-
  The result of `KernelIdeal` is the reference's value of its arguments.
-/
module

public import proofs.«01_k».proof.Proof.Products

@[expose] public section

noncomputable section

namespace Cert.Sampling

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The rows that enter the first channel product. -/
theorem entry_rows : W1 m ρ c (Proc.devRef .tc main_call0_v2) = positions (m ((c : Thread nD τ).loc main_arg0)) :=
  hostOps0_rows (W0 m ρ c)

/-- Those rows are still there when the sampling reads them. -/
theorem kept_rows : W2 m ρ c (Proc.devRef .tc main_call0_v2) = positions (m ((c : Thread nD τ).loc main_arg0)) :=
  (W2_of m ρ c main_call0_v2 (by decide)).trans (entry_rows m ρ c)

/-- The rows after the first channel product. -/
theorem first_rows : W2 m ρ c (Proc.devRef .tc main_call0_v5) =
    rowsTimes (positions (m ((c : Thread nD τ).loc main_arg0)))
      (transpose S384x384 [1, 0] (m ((c : Thread nD τ).loc main_arg2)) transposes_S384x384_S384x384_1_0)
      (shapeCast S1x384 (m ((c : Thread nD τ).loc main_arg3)) shapeCasts_S384_S1x384) :=
  (W2_arr m ρ c 3).trans ((region0_rows (V1 m ρ) c).trans
    (congr (congr (congrArg rowsTimes (entry_rows m ρ c)) (hostOps0_weights (W0 m ρ c))) (hostOps0_bias (W0 m ρ c))))

/-- The aggregated channels that enter the second channel product, one row per position. -/
theorem second_rows : W3 m ρ c (Proc.devRef .tc main_call0_v183) =
    shapeCast S4096x384
      (aggregate (referenceMap (m ((c : Thread nD τ).loc main_arg0)) (m ((c : Thread nD τ).loc main_arg2)) (m ((c : Thread nD τ).loc main_arg3)))
        (m ((c : Thread nD τ).loc main_arg1))
        (referenceOffsets (m ((c : Thread nD τ).loc main_arg0)) (m ((c : Thread nD τ).loc main_arg6)) (m ((c : Thread nD τ).loc main_arg7)))
        (referenceRaw (m ((c : Thread nD τ).loc main_arg0)) (m ((c : Thread nD τ).loc main_arg4)) (m ((c : Thread nD τ).loc main_arg5))))
      shapeCasts_S4x1024x384_S4096x384 := by
  refine (hostOps1_rows (W2 m ρ c)).trans ?_
  rw [kept_rows, first_rows, W2_args m ρ c main_arg1 (by decide), W2_args m ρ c main_arg4 (by decide), W2_args m ρ c main_arg5 (by decide),
    W2_args m ρ c main_arg6 (by decide), W2_args m ρ c main_arg7 (by decide), map_eq, raw_eq, offsets_eq]

/-- The weights that enter the second channel product. -/
theorem second_weights : W3 m ρ c (Proc.devRef .tc main_call0_v184) =
    transpose S384x384 [1, 0] (m ((c : Thread nD τ).loc main_arg8)) transposes_S384x384_S384x384_1_0 :=
  (hostOps1_weights (W2 m ρ c)).trans (by rw [W2_args m ρ c main_arg8 (by decide)])

/-- The bias that enters the second channel product. -/
theorem second_bias : W3 m ρ c (Proc.devRef .tc main_call0_v185) =
    shapeCast S1x384 (m ((c : Thread nD τ).loc main_arg9)) shapeCasts_S384_S1x384 :=
  (hostOps1_bias (W2 m ρ c)).trans (by rw [W2_args m ρ c main_arg9 (by decide)])

/-- What `KernelIdeal` leaves in its result. -/
theorem kernel_result : W5 m ρ c (Proc.devRef .tc main_v0) =
    referenceResult (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (hostOps2_result (W4 m ρ c)).trans ?_
  have h := (W4_arr m ρ c 3).trans ((region1_rows (V3 m ρ) c).trans
    (congr (congr (congrArg rowsTimes (second_rows m ρ c)) (second_weights m ρ c)) (second_bias m ρ c)))
  exact (congrArg (fun y : FVec Ideal S4096x384 .f32 =>
    shapeCast S4x384x32x32 (transpose S4x384x1024 [0, 2, 1] (shapeCast S4x1024x384 y shapeCasts_S4096x384_S4x1024x384)
      transposes_S4x1024x384_S4x384x1024_0_2_1) shapeCasts_S4x384x1024_S4x384x32x32) h).trans (out_eq _ _ _)

end Cert.Sampling

end
-- ==== Proof.lean ====
/-
  The certificate of the deformable aggregation kernel: the frames of the kernel's two programs and of the reference,
  and the equality of the kernel's and the reference's results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelResult
public import Idealize.ShloMosaic.Adequacy
public import Idealize.ShloMosaic.Init

@[expose] public section

noncomputable section

namespace Cert.Proof

open Idealize.ShloMosaic Idealize.SL.Sem Cert.Kernel

/-- From memories that agree on the arguments, `KernelIdeal` and `ReferenceIdeal` end with equal results and their
    arguments as they were. -/
theorem algebraic : algebraic_KernelIdeal_ReferenceIdeal (hKernelIdeal := Cert.KernelIdeal.Gen.facts)
    (hReferenceIdeal := Cert.ReferenceIdeal.Gen.facts) := by
  intro m g m' g' _ agree
  refine ⟨fun c => Cert.KernelIdeal.Gen.W5 m g c (Proc.devRef .tc Cert.KernelIdeal.main_v0), ?_, ?_⟩
  · refine (θ_run _ _ _).mono (fun r h c => ?_) (Cert.Sampling.kernel_run m g)
    have read (b) (hb) := h c _ (Cert.KernelIdeal.Gen.mem_uc b hb)
    have kept (a) (ha : a ∈ Cert.KernelIdeal.Gen.argRefs) (hb) := (read a hb).trans (Cert.KernelIdeal.Gen.W5_args m g c a ha)
    exact ⟨read _ (by decide), kept _ (by decide) (by decide), kept _ (by decide) (by decide), kept _ (by decide) (by decide),
      kept _ (by decide) (by decide), kept _ (by decide) (by decide), kept _ (by decide) (by decide), kept _ (by decide) (by decide),
      kept _ (by decide) (by decide), kept _ (by decide) (by decide), kept _ (by decide) (by decide)⟩
  · refine (θ_run _ _ _).mono (fun r h c => ⟨(h.1 c).1.trans ?_, (h.1 c).2⟩) (Cert.Sampling.reference_run m' g')
    obtain ⟨h0, h1, h2, h3, h4, h5, h6, h7, h8, h9⟩ := agree c
    rw [h0, h1, h2, h3, h4, h5, h6, h7, h8, h9]
    exact (Cert.Sampling.kernel_result m g c).symm

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => (θ_run _ _ _).mono (fun _ h => ⟨fun c => (h.1 c).2, h.2⟩) (Cert.Sampling.reference_run m g), trivial, algebraic⟩

end Cert.Proof

end
